-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![1024, 512]⟩ ⟨2, ![2048, 512]⟩ (Layout.meshBlock [2, 2, 4] ![[1], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_arg0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x512 : Shape := ⟨2, ![1024, 512]⟩
abbrev S2048x512 : Shape := ⟨2, ![2048, 512]⟩
abbrev S8 : Shape := ⟨1, ![8]⟩
abbrev S4 : Shape := ⟨1, ![4]⟩
abbrev S_ : Shape := ⟨0, ![]⟩
abbrev S1 : Shape := ⟨1, ![1]⟩
abbrev S64x512 : Shape := ⟨2, ![64, 512]⟩

abbrev nBuf : Space → Nat
  | .hbm => 2
  | .vmem => 2
  | .smem => 0
  | _ => 0

abbrev bufTy : (tb : Table) → Fin (tcTables nBuf tb) → BufTy
  | .hbm, ⟨0, _⟩ => ⟨S1024x512, .bf16⟩
  | .hbm, ⟨1, _⟩ => ⟨S2048x512, .bf16⟩
  | .local _ .vmem, ⟨0, _⟩ => ⟨S1024x512, .bf16⟩
  | .local _ .vmem, ⟨1, _⟩ => ⟨S2048x512, .bf16⟩
  | _, _ => ⟨S1024x512, .bf16⟩

abbrev bufScoped : (cs : CoreSpace) → Fin (nBuf (.core cs)) → Bool
  | .vmem, ⟨0, _⟩ => true
  | .vmem, ⟨1, _⟩ => true
  | _, _ => false

abbrev semScoped : Fin 1 → Bool
  | ⟨0, _⟩ => false
  | _ => false

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  (ofTc nBuf bufTy 1 34 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_8 : BitVec 32 := 8#32
  let v16 : BitVec 32 := Scalar.muli v2 c8_i32_8
  let v17 : BitVec 32 := Scalar.addi c0_i32 v16
  let c1_i32_5 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v13 : BitVec 32 := Scalar.subi c1_i32_5 v5
  let c4_i32_9 : BitVec 32 := 4#32
  let v18 : BitVec 32 := Scalar.muli v13 c4_i32_9
  let v19 : BitVec 32 := Scalar.addi v17 v18
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_10 : BitVec 32 := 1#32
  let v20 : BitVec 32 := Scalar.muli v8 c1_i32_10
  let v21 : BitVec 32 := Scalar.addi v19 v20
  v21.toNat
def k0_dev2 (d0 : Dev nD) : Nat :=
  let c0_i32_13 : BitVec 32 := 0#32
  let c1_i32_6 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.subi c1_i32_6 v2
  let c8_i32_12 : BitVec 32 := 8#32
  let v22 : BitVec 32 := Scalar.muli v14 c8_i32_12
  let v23 : BitVec 32 := Scalar.addi c0_i32_13 v22
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_14 : BitVec 32 := 4#32
  let v24 : BitVec 32 := Scalar.muli v5 c4_i32_14
  let v25 : BitVec 32 := Scalar.addi v23 v24
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_15 : BitVec 32 := 1#32
  let v26 : BitVec 32 := Scalar.muli v8 c1_i32_15
  let v27 : BitVec 32 := Scalar.addi v25 v26
  v27.toNat
def k0_dev3 (d0 : Dev nD) : Nat :=
  let c0_i32_18 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_17 : BitVec 32 := 8#32
  let v28 : BitVec 32 := Scalar.muli v2 c8_i32_17
  let v29 : BitVec 32 := Scalar.addi c0_i32_18 v28
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_19 : BitVec 32 := 4#32
  let v30 : BitVec 32 := Scalar.muli v5 c4_i32_19
  let v31 : BitVec 32 := Scalar.addi v29 v30
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v10 : BitVec 32 := Scalar.addi v8 c1_i32_3
  let c2_i32_4 : BitVec 32 := 2#32
  let c2_i32_2 : BitVec 32 := 2#32
  let v9 : BitVec 32 := Scalar.remsi v8 c2_i32_2
  let v11 : BitVec 32 := Scalar.muli c2_i32_4 v9
  let v12 : BitVec 32 := Scalar.subi v10 v11
  let c1_i32_20 : BitVec 32 := 1#32
  let v32 : BitVec 32 := Scalar.muli v12 c1_i32_20
  let v33 : BitVec 32 := Scalar.addi v31 v32
  v33.toNat
def k0_off1 (d0 : Dev nD) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1024_i32 : BitVec 32 := 1024#32
  let v34 : BitVec 32 := Scalar.muli v5 c1024_i32
  let v43 : Index := Scalar.indexCast v34
  let c0_25 : Index := 0#32
  ![v43.toNat, 0]
def k0_off2 (d0 : Dev nD) (c0_i32_26 : BitVec 32) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1024_i32 : BitVec 32 := 1024#32
  let v34 : BitVec 32 := Scalar.muli v5 c1024_i32
  let c2_i32_23 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v37 : BitVec 32 := Scalar.muli c2_i32_23 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v38 : BitVec 32 := Scalar.addi v37 v9
  let c256_i32 : BitVec 32 := 256#32
  let v39 : BitVec 32 := Scalar.muli v38 c256_i32
  let v45 : BitVec 32 := Scalar.addi v39 c0_i32_26
  let v47 : BitVec 32 := Scalar.addi v34 v45
  let c0_i32_33 : BitVec 32 := 0#32
  ![v47.toNat, 0]
def k0_dev4 (d0 : Dev nD) : Nat :=
  let c0_i32_30 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_29 : BitVec 32 := 8#32
  let v48 : BitVec 32 := Scalar.muli v2 c8_i32_29
  let v49 : BitVec 32 := Scalar.addi c0_i32_30 v48
  let c1_i32_5 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v13 : BitVec 32 := Scalar.subi c1_i32_5 v5
  let c4_i32_31 : BitVec 32 := 4#32
  let v50 : BitVec 32 := Scalar.muli v13 c4_i32_31
  let v51 : BitVec 32 := Scalar.addi v49 v50
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_32 : BitVec 32 := 1#32
  let v52 : BitVec 32 := Scalar.muli v8 c1_i32_32
  let v53 : BitVec 32 := Scalar.addi v51 v52
  v53.toNat
def k0_dev5 (d0 : Dev nD) : Nat :=
  let c0_i32_38 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_37 : BitVec 32 := 8#32
  let v63 : BitVec 32 := Scalar.muli v2 c8_i32_37
  let v64 : BitVec 32 := Scalar.addi c0_i32_38 v63
  let c1_i32_5 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v13 : BitVec 32 := Scalar.subi c1_i32_5 v5
  let c4_i32_39 : BitVec 32 := 4#32
  let v65 : BitVec 32 := Scalar.muli v13 c4_i32_39
  let v66 : BitVec 32 := Scalar.addi v64 v65
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_40 : BitVec 32 := 1#32
  let v67 : BitVec 32 := Scalar.muli v8 c1_i32_40
  let v68 : BitVec 32 := Scalar.addi v66 v67
  v68.toNat
def k0_dev6 (d0 : Dev nD) : Nat :=
  let c0_i32_46 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_45 : BitVec 32 := 8#32
  let v78 : BitVec 32 := Scalar.muli v2 c8_i32_45
  let v79 : BitVec 32 := Scalar.addi c0_i32_46 v78
  let c1_i32_5 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v13 : BitVec 32 := Scalar.subi c1_i32_5 v5
  let c4_i32_47 : BitVec 32 := 4#32
  let v80 : BitVec 32 := Scalar.muli v13 c4_i32_47
  let v81 : BitVec 32 := Scalar.addi v79 v80
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_48 : BitVec 32 := 1#32
  let v82 : BitVec 32 := Scalar.muli v8 c1_i32_48
  let v83 : BitVec 32 := Scalar.addi v81 v82
  v83.toNat
def k0_dev7 (d0 : Dev nD) : Nat :=
  let c0_i32_54 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_53 : BitVec 32 := 8#32
  let v93 : BitVec 32 := Scalar.muli v2 c8_i32_53
  let v94 : BitVec 32 := Scalar.addi c0_i32_54 v93
  let c1_i32_5 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v13 : BitVec 32 := Scalar.subi c1_i32_5 v5
  let c4_i32_55 : BitVec 32 := 4#32
  let v95 : BitVec 32 := Scalar.muli v13 c4_i32_55
  let v96 : BitVec 32 := Scalar.addi v94 v95
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_56 : BitVec 32 := 1#32
  let v97 : BitVec 32 := Scalar.muli v8 c1_i32_56
  let v98 : BitVec 32 := Scalar.addi v96 v97
  v98.toNat
def k0_off3 (d0 : Dev nD) (c0_i32_59 : BitVec 32) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1024_i32 : BitVec 32 := 1024#32
  let v34 : BitVec 32 := Scalar.muli v5 c1024_i32
  let c768_i32 : BitVec 32 := 768#32
  let c2_i32_23 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v37 : BitVec 32 := Scalar.muli c2_i32_23 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v38 : BitVec 32 := Scalar.addi v37 v9
  let c256_i32 : BitVec 32 := 256#32
  let v39 : BitVec 32 := Scalar.muli v38 c256_i32
  let v40 : BitVec 32 := Scalar.subi c768_i32 v39
  let v105 : BitVec 32 := Scalar.addi v40 c0_i32_59
  let v107 : BitVec 32 := Scalar.addi v34 v105
  let c0_i32_66 : BitVec 32 := 0#32
  ![v107.toNat, 0]
def k0_dev8 (d0 : Dev nD) : Nat :=
  let c0_i32_63 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_62 : BitVec 32 := 8#32
  let v108 : BitVec 32 := Scalar.muli v2 c8_i32_62
  let v109 : BitVec 32 := Scalar.addi c0_i32_63 v108
  let c1_i32_5 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v13 : BitVec 32 := Scalar.subi c1_i32_5 v5
  let c4_i32_64 : BitVec 32 := 4#32
  let v110 : BitVec 32 := Scalar.muli v13 c4_i32_64
  let v111 : BitVec 32 := Scalar.addi v109 v110
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_65 : BitVec 32 := 1#32
  let v112 : BitVec 32 := Scalar.muli v8 c1_i32_65
  let v113 : BitVec 32 := Scalar.addi v111 v112
  v113.toNat
def k0_dev9 (d0 : Dev nD) : Nat :=
  let c0_i32_71 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_70 : BitVec 32 := 8#32
  let v123 : BitVec 32 := Scalar.muli v2 c8_i32_70
  let v124 : BitVec 32 := Scalar.addi c0_i32_71 v123
  let c1_i32_5 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v13 : BitVec 32 := Scalar.subi c1_i32_5 v5
  let c4_i32_72 : BitVec 32 := 4#32
  let v125 : BitVec 32 := Scalar.muli v13 c4_i32_72
  let v126 : BitVec 32 := Scalar.addi v124 v125
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_73 : BitVec 32 := 1#32
  let v127 : BitVec 32 := Scalar.muli v8 c1_i32_73
  let v128 : BitVec 32 := Scalar.addi v126 v127
  v128.toNat
def k0_dev10 (d0 : Dev nD) : Nat :=
  let c0_i32_79 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_78 : BitVec 32 := 8#32
  let v138 : BitVec 32 := Scalar.muli v2 c8_i32_78
  let v139 : BitVec 32 := Scalar.addi c0_i32_79 v138
  let c1_i32_5 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v13 : BitVec 32 := Scalar.subi c1_i32_5 v5
  let c4_i32_80 : BitVec 32 := 4#32
  let v140 : BitVec 32 := Scalar.muli v13 c4_i32_80
  let v141 : BitVec 32 := Scalar.addi v139 v140
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_81 : BitVec 32 := 1#32
  let v142 : BitVec 32 := Scalar.muli v8 c1_i32_81
  let v143 : BitVec 32 := Scalar.addi v141 v142
  v143.toNat
def k0_dev11 (d0 : Dev nD) : Nat :=
  let c0_i32_87 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_86 : BitVec 32 := 8#32
  let v153 : BitVec 32 := Scalar.muli v2 c8_i32_86
  let v154 : BitVec 32 := Scalar.addi c0_i32_87 v153
  let c1_i32_5 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v13 : BitVec 32 := Scalar.subi c1_i32_5 v5
  let c4_i32_88 : BitVec 32 := 4#32
  let v155 : BitVec 32 := Scalar.muli v13 c4_i32_88
  let v156 : BitVec 32 := Scalar.addi v154 v155
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_89 : BitVec 32 := 1#32
  let v157 : BitVec 32 := Scalar.muli v8 c1_i32_89
  let v158 : BitVec 32 := Scalar.addi v156 v157
  v158.toNat
def k0_off4 (d0 : Dev nD) (c0_i32_101 : BitVec 32) : Fin 2 → Nat :=
  let c1_i32_21 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v35 : BitVec 32 := Scalar.subi c1_i32_21 v5
  let c1024_i32_22 : BitVec 32 := 1024#32
  let v36 : BitVec 32 := Scalar.muli v35 c1024_i32_22
  let c2_i32_23 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v37 : BitVec 32 := Scalar.muli c2_i32_23 v2
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v38 : BitVec 32 := Scalar.addi v37 v9
  let c256_i32 : BitVec 32 := 256#32
  let v39 : BitVec 32 := Scalar.muli v38 c256_i32
  let v178 : BitVec 32 := Scalar.addi v36 v39
  let v179 : BitVec 32 := Scalar.addi v178 c0_i32_101
  let c0_i32_108 : BitVec 32 := 0#32
  ![v179.toNat, 0]
def k0_dev12 (d0 : Dev nD) : Nat :=
  let c0_i32_105 : BitVec 32 := 0#32
  let c1_i32_6 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.subi c1_i32_6 v2
  let c8_i32_104 : BitVec 32 := 8#32
  let v180 : BitVec 32 := Scalar.muli v14 c8_i32_104
  let v181 : BitVec 32 := Scalar.addi c0_i32_105 v180
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_106 : BitVec 32 := 4#32
  let v182 : BitVec 32 := Scalar.muli v5 c4_i32_106
  let v183 : BitVec 32 := Scalar.addi v181 v182
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_107 : BitVec 32 := 1#32
  let v184 : BitVec 32 := Scalar.muli v8 c1_i32_107
  let v185 : BitVec 32 := Scalar.addi v183 v184
  v185.toNat
def k0_dev13 (d0 : Dev nD) : Nat :=
  let c0_i32_114 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_113 : BitVec 32 := 8#32
  let v194 : BitVec 32 := Scalar.muli v2 c8_i32_113
  let v195 : BitVec 32 := Scalar.addi c0_i32_114 v194
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_115 : BitVec 32 := 4#32
  let v196 : BitVec 32 := Scalar.muli v5 c4_i32_115
  let v197 : BitVec 32 := Scalar.addi v195 v196
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v10 : BitVec 32 := Scalar.addi v8 c1_i32_3
  let c2_i32_4 : BitVec 32 := 2#32
  let c2_i32_2 : BitVec 32 := 2#32
  let v9 : BitVec 32 := Scalar.remsi v8 c2_i32_2
  let v11 : BitVec 32 := Scalar.muli c2_i32_4 v9
  let v12 : BitVec 32 := Scalar.subi v10 v11
  let c1_i32_116 : BitVec 32 := 1#32
  let v198 : BitVec 32 := Scalar.muli v12 c1_i32_116
  let v199 : BitVec 32 := Scalar.addi v197 v198
  v199.toNat
def k0_dev14 (d0 : Dev nD) : Nat :=
  let c0_i32_132 : BitVec 32 := 0#32
  let c1_i32_6 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.subi c1_i32_6 v2
  let c8_i32_131 : BitVec 32 := 8#32
  let v221 : BitVec 32 := Scalar.muli v14 c8_i32_131
  let v222 : BitVec 32 := Scalar.addi c0_i32_132 v221
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_133 : BitVec 32 := 4#32
  let v223 : BitVec 32 := Scalar.muli v5 c4_i32_133
  let v224 : BitVec 32 := Scalar.addi v222 v223
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_134 : BitVec 32 := 1#32
  let v225 : BitVec 32 := Scalar.muli v8 c1_i32_134
  let v226 : BitVec 32 := Scalar.addi v224 v225
  v226.toNat
def k0_dev15 (d0 : Dev nD) : Nat :=
  let c0_i32_141 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_140 : BitVec 32 := 8#32
  let v235 : BitVec 32 := Scalar.muli v2 c8_i32_140
  let v236 : BitVec 32 := Scalar.addi c0_i32_141 v235
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_142 : BitVec 32 := 4#32
  let v237 : BitVec 32 := Scalar.muli v5 c4_i32_142
  let v238 : BitVec 32 := Scalar.addi v236 v237
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v10 : BitVec 32 := Scalar.addi v8 c1_i32_3
  let c2_i32_4 : BitVec 32 := 2#32
  let c2_i32_2 : BitVec 32 := 2#32
  let v9 : BitVec 32 := Scalar.remsi v8 c2_i32_2
  let v11 : BitVec 32 := Scalar.muli c2_i32_4 v9
  let v12 : BitVec 32 := Scalar.subi v10 v11
  let c1_i32_143 : BitVec 32 := 1#32
  let v239 : BitVec 32 := Scalar.muli v12 c1_i32_143
  let v240 : BitVec 32 := Scalar.addi v238 v239
  v240.toNat
def k0_dev16 (d0 : Dev nD) : Nat :=
  let c0_i32_159 : BitVec 32 := 0#32
  let c1_i32_6 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.subi c1_i32_6 v2
  let c8_i32_158 : BitVec 32 := 8#32
  let v262 : BitVec 32 := Scalar.muli v14 c8_i32_158
  let v263 : BitVec 32 := Scalar.addi c0_i32_159 v262
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_160 : BitVec 32 := 4#32
  let v264 : BitVec 32 := Scalar.muli v5 c4_i32_160
  let v265 : BitVec 32 := Scalar.addi v263 v264
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_161 : BitVec 32 := 1#32
  let v266 : BitVec 32 := Scalar.muli v8 c1_i32_161
  let v267 : BitVec 32 := Scalar.addi v265 v266
  v267.toNat
def k0_dev17 (d0 : Dev nD) : Nat :=
  let c0_i32_168 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_167 : BitVec 32 := 8#32
  let v276 : BitVec 32 := Scalar.muli v2 c8_i32_167
  let v277 : BitVec 32 := Scalar.addi c0_i32_168 v276
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_169 : BitVec 32 := 4#32
  let v278 : BitVec 32 := Scalar.muli v5 c4_i32_169
  let v279 : BitVec 32 := Scalar.addi v277 v278
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v10 : BitVec 32 := Scalar.addi v8 c1_i32_3
  let c2_i32_4 : BitVec 32 := 2#32
  let c2_i32_2 : BitVec 32 := 2#32
  let v9 : BitVec 32 := Scalar.remsi v8 c2_i32_2
  let v11 : BitVec 32 := Scalar.muli c2_i32_4 v9
  let v12 : BitVec 32 := Scalar.subi v10 v11
  let c1_i32_170 : BitVec 32 := 1#32
  let v280 : BitVec 32 := Scalar.muli v12 c1_i32_170
  let v281 : BitVec 32 := Scalar.addi v279 v280
  v281.toNat
def k0_dev18 (d0 : Dev nD) : Nat :=
  let c0_i32_186 : BitVec 32 := 0#32
  let c1_i32_6 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.subi c1_i32_6 v2
  let c8_i32_185 : BitVec 32 := 8#32
  let v303 : BitVec 32 := Scalar.muli v14 c8_i32_185
  let v304 : BitVec 32 := Scalar.addi c0_i32_186 v303
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_187 : BitVec 32 := 4#32
  let v305 : BitVec 32 := Scalar.muli v5 c4_i32_187
  let v306 : BitVec 32 := Scalar.addi v304 v305
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_188 : BitVec 32 := 1#32
  let v307 : BitVec 32 := Scalar.muli v8 c1_i32_188
  let v308 : BitVec 32 := Scalar.addi v306 v307
  v308.toNat
def k0_dev19 (d0 : Dev nD) : Nat :=
  let c0_i32_195 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_194 : BitVec 32 := 8#32
  let v317 : BitVec 32 := Scalar.muli v2 c8_i32_194
  let v318 : BitVec 32 := Scalar.addi c0_i32_195 v317
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_196 : BitVec 32 := 4#32
  let v319 : BitVec 32 := Scalar.muli v5 c4_i32_196
  let v320 : BitVec 32 := Scalar.addi v318 v319
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v10 : BitVec 32 := Scalar.addi v8 c1_i32_3
  let c2_i32_4 : BitVec 32 := 2#32
  let c2_i32_2 : BitVec 32 := 2#32
  let v9 : BitVec 32 := Scalar.remsi v8 c2_i32_2
  let v11 : BitVec 32 := Scalar.muli c2_i32_4 v9
  let v12 : BitVec 32 := Scalar.subi v10 v11
  let c1_i32_197 : BitVec 32 := 1#32
  let v321 : BitVec 32 := Scalar.muli v12 c1_i32_197
  let v322 : BitVec 32 := Scalar.addi v320 v321
  v322.toNat
abbrev stage0_0 : Fin 1 → Memref sig .tc .vmem S1024x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S2048x512 : Shape := ⟨2, ![2048, 512]⟩

abbrev nBuf : Space → Nat
  | .hbm => 1
  | .vmem => 0
  | .smem => 0
  | _ => 0

abbrev bufTy : (tb : Table) → Fin (tcTables nBuf tb) → BufTy
  | .hbm, ⟨0, _⟩ => ⟨S2048x512, .bf16⟩
  | _, _ => ⟨S2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]
-- ==== Proof.Mesh.lean ====
/-
  The mesh and the tables of the schedule.

  Sixteen devices, numbered `8 x + 4 y + z`.  Every device holds one half of the whole array (the half its `y` names) and
  must end with both.  The output buffer is read as 32 blocks of 64 rows.  A device moves its blocks on four LANES:

    lane 0   to the `y` neighbour   the own half's quarter `q`
    lane 1   to the `y` neighbour   the own half's quarter `3 - q`
    lane 2   to the `x` neighbour   the other half's quarter `q`, which lane 0 has just brought in
    lane 3   to the `z` neighbour   the same quarter

  with `q = 2 x + z % 2`, four pieces (blocks) to a lane.  This module names the neighbours and the block each piece is,
  and states what the proof uses of them; each statement ranges over all devices, lanes and pieces and is decided.
-/
module

public import proofs.«01_k».proof.Defs
public import proofs.«01_k».proof.Proof.Gen.KernelIdeal
public import proofs.«01_k».proof.Proof.Gen.KernelIdeal.Skeleton

@[expose] public section

noncomputable section

namespace Cert.Proof

open Cert.KernelIdeal Cert.KernelIdeal.Gen
open Idealize.ShloMosaic Idealize.SL.Sem

/-! ## Neighbours -/

/-- The device across `y`. -/
def yn (c : Dev nD) : Dev nD := ⟨c.val ^^^ 4, Nat.xor_lt_two_pow (n := 4) c.isLt (by decide)⟩
/-- The device across `x`. -/
def xn (c : Dev nD) : Dev nD := ⟨c.val ^^^ 8, Nat.xor_lt_two_pow (n := 4) c.isLt (by decide)⟩
/-- The device at the other parity of `z`. -/
def zn (c : Dev nD) : Dev nD := ⟨c.val ^^^ 1, Nat.xor_lt_two_pow (n := 4) c.isLt (by decide)⟩

/-- The device a lane leads to. -/
def nb (a : Fin 4) (c : Dev nD) : Dev nD :=
  match a with
  | 0 => yn c
  | 1 => yn c
  | 2 => xn c
  | 3 => zn c

/-- A lane leads back: the device across is across from this one. -/
theorem nb_nb : ∀ (a : Fin 4) (c : Dev nD), nb a (nb a c) = c := by decide +kernel

/-- A lane as a permutation of the devices. -/
def across (a : Fin 4) : Dev nD ≃ Dev nD := ⟨nb a, nb a, nb_nb a, nb_nb a⟩

/-! ## Blocks -/

/-- Quarter number `q` of a device. -/
def quarter (c : Dev nD) : ℕ := 2 * (c.val / 8) + c.val % 2

/-- Block `k` of quarter `r` of the device's own half. -/
def ownBlk (c : Dev nD) (r k : ℕ) : Fin 32 := Fin.ofNat 32 (16 * (c.val / 4 % 2) + 4 * r + k)
/-- Block `k` of quarter `r` of the other half. -/
def remBlk (c : Dev nD) (r k : ℕ) : Fin 32 := Fin.ofNat 32 (16 * (1 - c.val / 4 % 2) + 4 * r + k)

/-- The block piece `k` of lane `a` is, at the device that sends it. -/
def sb (c : Dev nD) (a k : Fin 4) : Fin 32 :=
  match a with
  | 0 => ownBlk c (quarter c) k
  | 1 => ownBlk c (3 - quarter c) k
  | 2 => remBlk c (quarter c) k
  | 3 => remBlk c (quarter c) k

/-- The block piece `k` of lane `a` is, at the device it lands at. -/
def lb (c : Dev nD) (a k : Fin 4) : Fin 32 := sb (nb a c) a k

/-- The own half's blocks, named by quarter: the two that are sent, the two that are not. -/
def ob (c : Dev nD) (a k : Fin 4) : Fin 32 :=
  match a with
  | 0 => ownBlk c (quarter c) k
  | 1 => ownBlk c (3 - quarter c) k
  | 2 => ownBlk c (quarter (xn c)) k
  | 3 => ownBlk c (quarter (zn c)) k

/-- All the blocks of a device: its own half's, then those that land. -/
def pb (c : Dev nD) (p : Fin 2 × Fin 4 × Fin 4) : Fin 32 :=
  if p.1 = 0 then ob c p.2.1 p.2.2 else lb c p.2.1 p.2.2

/-- Each block of the buffer is one of them, once. -/
theorem pb_inj : ∀ (c : Dev nD) (p p' : Fin 2 × Fin 4 × Fin 4), pb c p = pb c p' → p = p' := by decide +kernel

/-- The pieces of the buffer are its blocks, each once. -/
theorem pb_bij (c : Dev nD) : Function.Bijective (pb c) :=
  (Fintype.bijective_iff_injective_and_card _).mpr ⟨fun _ _ h => pb_inj c _ _ h, by simp⟩

/-- The same as a bijection. -/
def pbEquiv (c : Dev nD) : (Fin 2 × Fin 4 × Fin 4) ≃ Fin 32 := Equiv.ofBijective (pb c) (pb_bij c)

/-- What lanes 2 and 3 send is what lane 0 brought. -/
theorem sb_forward : ∀ (c : Dev nD) (k : Fin 4), sb c 2 k = lb c 0 k ∧ sb c 3 k = lb c 0 k := by decide +kernel

/-- Lanes 0 and 1 send own blocks. -/
theorem sb_own : ∀ (c : Dev nD) (k : Fin 4), sb c 0 k = ob c 0 k ∧ sb c 1 k = ob c 1 k := by decide +kernel

/-- A block of the own half is one of `ob`, a block of the other is not. -/
theorem own_iff : ∀ (c : Dev nD) (p : Fin 2 × Fin 4 × Fin 4), (pb c p).val / 16 = c.val / 4 % 2 ↔ p.1 = 0 := by decide +kernel

/-! ## Where a block's contents come from -/

/-- The device whose argument block `b` of device `c`'s result is read from. -/
def srcB (c : Dev nD) (b : Fin 32) : Dev nD :=
  if b.val / 16 = c.val / 4 % 2 then c
  else if b.val / 4 % 4 = quarter c ∨ b.val / 4 % 4 = 3 - quarter c then yn c
  else if b.val / 4 % 4 = quarter (xn c) then yn (xn c)
  else yn (zn c)

/-- An own block is this device's. -/
theorem srcB_own : ∀ (c : Dev nD) (a k : Fin 4), srcB c (ob c a k) = c := by decide +kernel

/-- A block that is sent has one source, at the sender and at the receiver. -/
theorem srcB_send : ∀ (c : Dev nD) (a k : Fin 4), srcB (nb a c) (sb c a k) = srcB c (sb c a k) := by decide +kernel

/-- The source of a block holds that block's half. -/
theorem srcB_half : ∀ (c : Dev nD) (b : Fin 32), (srcB c b).val / 4 % 2 = b.val / 16 := by decide +kernel

/-! ## The program's own device and offset computations -/

/-- The device piece `k` of lane `a` is addressed to, as the program computes it. -/
def devP (a k : Fin 4) (c : Dev nD) : Dev nD :=
  match a, k with
  | 0, 0 => ⟨k0_dev4 c, k0_dev4_lt c⟩ | 0, 1 => ⟨k0_dev5 c, k0_dev5_lt c⟩
  | 0, 2 => ⟨k0_dev6 c, k0_dev6_lt c⟩ | 0, 3 => ⟨k0_dev7 c, k0_dev7_lt c⟩
  | 1, 0 => ⟨k0_dev8 c, k0_dev8_lt c⟩ | 1, 1 => ⟨k0_dev9 c, k0_dev9_lt c⟩
  | 1, 2 => ⟨k0_dev10 c, k0_dev10_lt c⟩ | 1, 3 => ⟨k0_dev11 c, k0_dev11_lt c⟩
  | 2, 0 => ⟨k0_dev12 c, k0_dev12_lt c⟩ | 2, 1 => ⟨k0_dev14 c, k0_dev14_lt c⟩
  | 2, 2 => ⟨k0_dev16 c, k0_dev16_lt c⟩ | 2, 3 => ⟨k0_dev18 c, k0_dev18_lt c⟩
  | 3, 0 => ⟨k0_dev13 c, k0_dev13_lt c⟩ | 3, 1 => ⟨k0_dev15 c, k0_dev15_lt c⟩
  | 3, 2 => ⟨k0_dev17 c, k0_dev17_lt c⟩ | 3, 3 => ⟨k0_dev19 c, k0_dev19_lt c⟩

/-- The program addresses a piece to the neighbour its lane leads to. -/
theorem devP_eq : ∀ (a k : Fin 4) (c : Dev nD), devP a k c = nb a c := by decide +kernel

/-- The device signal `d` is addressed to, as the program computes it. -/
def sigP (d : Fin 3) (c : Dev nD) : Dev nD :=
  match d with
  | 0 => ⟨k0_dev1 c, k0_dev1_lt c⟩
  | 1 => ⟨k0_dev2 c, k0_dev2_lt c⟩
  | 2 => ⟨k0_dev3 c, k0_dev3_lt c⟩

/-- The lane a signal stands for: the first of those leading the same way. -/
def sigLane (d : Fin 3) : Fin 4 := match d with | 0 => 0 | 1 => 2 | 2 => 3

/-- The program signals the neighbour of the signal's lane. -/
theorem sigP_eq : ∀ (d : Fin 3) (c : Dev nD), sigP d c = nb (sigLane d) c := by decide +kernel

/-- The offsets of piece `k` of lane `a`, as the program computes them. -/
def offP (a k : Fin 4) (c : Dev nD) : Fin 2 → ℕ :=
  match a with
  | 0 => k0_off2 c (BitVec.ofNat 32 (64 * k.val))
  | 1 => k0_off3 c (BitVec.ofNat 32 (64 * k.val))
  | 2 => k0_off4 c (BitVec.ofNat 32 (64 * k.val))
  | 3 => k0_off4 c (BitVec.ofNat 32 (64 * k.val))

/-- The program reads and writes a piece at its block. -/
theorem offP_eq : ∀ (a k : Fin 4) (c : Dev nD), offP a k c = ![64 * (sb c a k).val, 0] := by decide +kernel

/-- A piece lies inside the buffer. -/
theorem offP_inb (a k : Fin 4) (c : Dev nD) (i : Fin 2) : offP a k c i + S64x512.size i ≤ S2048x512.size i := by
  rw [offP_eq]
  have := (sb c a k).isLt
  fin_cases i <;> simp <;> omega

end Cert.Proof

end
-- ==== Proof.Shape.lean ====
/-
  The kernel's body as tables of operations: three signals, the load and the store of the own half, the barrier wait,
  and then lists of sends and waits, each operation named by its lane and its piece.  The printed body is this text by
  unfolding.
-/
module

public import proofs.«01_k».proof.Proof.Mesh

@[expose] public section

noncomputable section

namespace Cert.Proof

open Cert.KernelIdeal Cert.KernelIdeal.Gen
open Idealize.ShloMosaic Idealize.SL.Sem
open Idealize.ShloMosaic.TcCoe

variable {F : FTy → Type} [FloatOps F]

/-- The argument's staging buffer, whole. -/
abbrev xM : Memref sig .tc .vmem S1024x512 .bf16 := Memref.whole cc0_stg0_0
/-- The result's staging buffer, whole. -/
abbrev oM : Memref sig .tc .vmem S2048x512 .bf16 := Memref.whole cc0_stg1_0

/-- The piece's rows in the result's buffer. -/
abbrev pieceM (a k : Fin 4) (c : Dev nD) : Memref sig .tc .vmem S64x512 .bf16 :=
  oM.slice (Rect.unit (s := S2048x512) (offP a k c) S64x512.size (offP_inb a k c)) (fun _ => rfl)

/-- A piece is whole words. -/
theorem pieceM_words (a k : Fin 4) (c : Dev nD) : (pieceM a k c).view.WordExact :=
  (Memref.isWhole_whole cc0_stg1_0).wordExact_slice rfl _ (match a with
    | 0 => k0_off2_wordsbf16 c k
    | 1 => k0_off3_wordsbf16 c k
    | 2 => k0_off4_wordsbf16 c k
    | 3 => k0_off4_wordsbf16 c k)

/-- The first of a lane's four semaphores: of those counting what was sent (0), and what has landed (1). -/
def semBase (h : Fin 2) (a : Fin 4) : Fin 31 :=
  match h, a with
  | 0, 0 => 2 | 0, 1 => 6 | 0, 2 => 18 | 0, 3 => 26
  | 1, 0 => 10 | 1, 1 => 14 | 1, 2 => 22 | 1, 3 => 30

/-- Of a piece, the semaphore of its send (0) or of its landing (1). -/
def dsem (s : Fin 2 × Fin 4 × Fin 4) : DmaSem sig := ⟨(semBase s.1 s.2.1).val + s.2.2.val, show _ < 34 by omega⟩

/-- The barrier semaphore. -/
abbrev barS : Sem sig := (SemArray.scalar (sig.barrier 0 rfl) : Sems sig S_).sem

/-- Piece `k` of lane `a` leaves device `c`. -/
abbrev sendOp (c : Dev nD) (p : Fin 4 × Fin 4) : TpuEff nD τ sig (Elt F) Λ₀ .tc PUnit :=
  .enqueueDma (pieceM p.1 p.2 c) (.remote (Dev.tc (devP p.1 p.2 c)) (pieceM p.1 p.2 c) (.dma (dsem (0, p)))) (.dma (dsem (1, p)))
    (pieceM_words p.1 p.2 c) (pieceM_words p.1 p.2 c) ⟨⟨rfl, Or.inl rfl⟩, trivial⟩

/-- Device `c` waits on a piece's send or landing. -/
abbrev waitOp (c : Dev nD) (s : Fin 2 × Fin 4 × Fin 4) : TpuEff nD τ sig (Elt F) Λ₀ .tc PUnit :=
  .waitDma2 (dsem s) (pieceM s.2.1 s.2.2 c) (pieceM s.2.1 s.2.2 c) (pieceM_words s.2.1 s.2.2 c) (pieceM_words s.2.1 s.2.2 c)

/-- Device `c` signals a neighbour's barrier. -/
abbrev sigOp (c : Dev nD) (d : Fin 3) : TpuEff nD τ sig (Elt F) Λ₀ .tc PUnit :=
  .semSignal (Dev.tc (sigP d c)) barS 1

/-- Operations in order, then the rest. -/
def runL (ops : List (TpuEff nD τ sig (Elt F) Λ₀ .tc PUnit)) (rest : Prog (TpuEff nD τ sig (Elt F) Λ₀ .tc) PUnit) :
    Prog (TpuEff nD τ sig (Elt F) Λ₀ .tc) PUnit :=
  ops.foldr (fun e p => .op e fun _ => p) rest

/-- Two lists of steps run one after the other. -/
theorem runL_append (o o' : List (TpuEff nD τ sig (Elt F) Λ₀ .tc PUnit)) (rest : Prog (TpuEff nD τ sig (Elt F) Λ₀ .tc) PUnit) :
    runL (o ++ o') rest = runL o (runL o' rest) := List.foldr_append

/-- The four pieces of a lane. -/
abbrev four : List (Fin 4) := [0, 1, 2, 3]

/-- The sends of lanes 0 and 1. -/
def sends1 : List (Fin 4 × Fin 4) := four.map (Prod.mk 0) ++ four.map (Prod.mk 1)

/-- One trip: wait for a landing on lane 0 and forward it on lanes 2 and 3. -/
def tripOps (c : Dev nD) (k : Fin 4) : List (TpuEff nD τ sig (Elt F) Λ₀ .tc PUnit) :=
  [waitOp c (1, 0, k), sendOp c (2, k), sendOp c (3, k)]

/-- The waits after the trips: the landings of lanes 1, 2, 3. -/
def lands : List (Fin 2 × Fin 4 × Fin 4) :=
  four.map (fun k => (1, 1, k)) ++ four.flatMap fun k => [(1, 2, k), (1, 3, k)]

/-- The last waits: every send. -/
def sents : List (Fin 2 × Fin 4 × Fin 4) :=
  four.map (fun k => (0, 0, k)) ++ four.map (fun k => (0, 1, k)) ++ four.flatMap fun k => [(0, 2, k), (0, 3, k)]

/-- The rectangle of the own half. -/
abbrev ownR (c : Dev nD) : Rect S2048x512 := Rect.unit (s := S2048x512) (k0_off1 c) S1024x512.size (k0_off1_inb c)
/-- The rectangle of the whole argument. -/
abbrev xR : Rect S1024x512 := Rect.unit (s := S1024x512) ![0, 0] S1024x512.size inb_S1024x512_S1024x512_0_0

/-- The body after the barrier. -/
def afterBar (c : Dev nD) : Prog (TpuEff nD τ sig (Elt F) Λ₀ .tc) PUnit :=
  runL (sends1.map (sendOp c)) <| runL (four.flatMap (tripOps c)) <| runL (lands.map (waitOp c)) <| runL (sents.map (waitOp c)) (.ret ⟨⟩)

/-- The whole body. -/
def bodyT (c : Dev nD) : Prog (TpuEff nD τ sig (Elt F) Λ₀ .tc) PUnit :=
  runL ([0, 1, 2].map (sigOp c)) <|
    .op (.load xM xR.toLoadRect (View.loadsAt_vmem h_S1024x512)) fun v =>
    .op (.load oM (ownR c).toLoadRect (View.loadsAt_vmem h_S1024x512)) fun _ =>
    .op (.store oM (ownR c) (k0_pay1 v) Finset.univ
      (View.stores_vmem h_S1024x512 ((Memref.isWhole_whole cc0_stg1_0).storeExact_slice rfl _ (k0_off1_packedbf16 c)) (fun _ => rfl)) (.inl rfl)) fun _ =>
    .op (.semWait barS 3) fun _ => afterBar c

set_option maxRecDepth 65536 in
/-- The printed body is the tables' text. -/
theorem body_eq : cc0_body (F := F) xM (Memref.isWhole_whole _) oM (Memref.isWhole_whole _) cc0_scratch0 cc0_scratch1 cc0_scratch2 cc0_scratch3 cc0_scratch4 cc0_scratch5
    = .op .deviceId fun c => bodyT c := by
  rw [cc0_body_eq_skeleton]
  rfl

end Cert.Proof

end
-- ==== Proof.Blocks.lean ====
/-
  The result's buffer in blocks of 64 rows, and what it holds at the end.

  `outAt X c` is device `c`'s result when device `d`'s argument block is `X d`: each block is read from the device the
  table names.  The three facts the run uses: a piece's view covers its block's rows; a transfer of a piece whose source
  holds the sender's result leaves the receiver's result on that block; the store of the own argument leaves the result
  on the own half.
-/
module

public import proofs.«01_k».proof.Proof.Shape
public import Idealize.ShloMosaic.Lib.Pipeline.Value

@[expose] public section

noncomputable section

namespace Cert.Proof

open Cert.KernelIdeal Cert.KernelIdeal.Gen
open Idealize.ShloMosaic Idealize.SL.Sem
open Idealize.ShloMosaic.TcCoe

variable {F : FTy → Type} [FloatOps F]

/-- The block a row lies in. -/
def blk (i : S2048x512.Idx) : Fin 32 := ⟨(i 0).val / 64, by have : (i 0).val < 2048 := (i 0).isLt; omega⟩

/-- The rows of a block. -/
def rows (b : Fin 32) : Finset S2048x512.Idx := Finset.univ.filter fun i => blk i = b

/-- A row is of the block it lies in. -/
theorem mem_rows {b : Fin 32} {i : S2048x512.Idx} : i ∈ rows b ↔ blk i = b := by simp [rows]

/-- Different blocks share no row. -/
theorem rows_disjoint {b b' : Fin 32} (h : b ≠ b') : Disjoint (rows b) (rows b') :=
  Finset.disjoint_left.mpr fun i hi hi' => h ((mem_rows.mp hi).symm.trans (mem_rows.mp hi'))

/-- The own half's rows. -/
def ownSet (c : Dev nD) : Finset S2048x512.Idx := Finset.univ.filter fun i => (blk i).val / 16 = c.val / 4 % 2

/-- A row is of the own half when its block is. -/
theorem mem_ownSet {c : Dev nD} {i : S2048x512.Idx} : i ∈ ownSet c ↔ (blk i).val / 16 = c.val / 4 % 2 := by simp [ownSet]

/-- What device `c`'s result holds when device `d` holds `X d`. -/
def outAt (X : Dev nD → S1024x512.Idx → Elt F .bf16) (c : Dev nD) : S2048x512.Idx → Elt F .bf16 :=
  fun i => X (srcB c (blk i)) (Shape.pair ⟨(i 0).val % 1024, Nat.mod_lt _ (by decide)⟩ (i 1))

/-! ## Views -/

omit [FloatOps F] in
/-- A piece covers its block. -/
theorem pieceM_set (a k : Fin 4) (c : Dev nD) : (pieceM a k c).view.set = rows (sb c a k) := by
  show ((View.whole cc0_stg1_0).slice (Rect.unit (s := S2048x512) (offP a k c) S64x512.size (offP_inb a k c))).set = _
  rw [View.set_slice_whole]
  ext i
  rw [Rect.mem_set_unit, mem_rows, offP_eq]
  have h1 : (i 1).val < 512 := (i 1).isLt
  constructor
  · intro h
    have h0 := h 0
    simp at h0
    exact Fin.ext (show (i 0).val / 64 = _ by omega)
  · intro h
    have h0 : (i 0).val / 64 = (sb c a k).val := congrArg Fin.val h
    intro j
    match j with
    | 0 => simp; omega
    | 1 => simp; omega

omit [FloatOps F] in
/-- The rectangle of the own half covers the own half's rows. -/
theorem ownR_set (c : Dev nD) : (oM.access (ownR c) : View sig .tc _ _ _).set = ownSet c := by
  show ((View.whole cc0_stg1_0).slice (ownR c)).set = _
  rw [View.set_slice_whole]
  ext i
  rw [Rect.mem_set_unit, mem_ownSet, k0_off1_eq]
  have h1 : (i 1).val < 512 := (i 1).isLt
  have h2 : (i 0).val < 2048 := (i 0).isLt
  have hb : (blk i).val = (i 0).val / 64 := rfl
  constructor
  · intro h
    have h0 := h 0
    simp at h0
    omega
  · intro h j
    match j with
    | 0 => simp; omega
    | 1 => simp; omega

/-! ## Contents -/

omit [FloatOps F] in
/-- A transfer of a piece leaves, on its block, what the source held there; which is the receiver's result when the source
    held the sender's. -/
theorem land_eq (X : Dev nD → S1024x512.Idx → Elt F .bf16) (a k : Fin 4) (c : Dev nD) (fd : S2048x512.Idx → Elt F .bf16) :
    ∀ i ∈ rows (sb c a k), (pieceM a k c).view.write (Elt F) fd ((pieceM a k c).view.read (Elt F) (outAt X c)) Finset.univ i = outAt X (nb a c) i := by
  intro i hi
  rw [View.write_read_eq_piecewise]
  have hm : i ∈ (pieceM a k c).view.setOn Finset.univ := by rw [View.setOn_univ, pieceM_set]; exact hi
  rw [Finset.piecewise_eq_of_mem _ _ _ hm]
  unfold outAt
  rw [mem_rows.mp hi, srcB_send]

/-- Storing the own argument leaves the result on the own half. -/
theorem store_eq (X : Dev nD → S1024x512.Idx → Elt F .bf16) (c : Dev nD) (f : S2048x512.Idx → Elt F .bf16) :
    ∀ i ∈ ownSet c, (oM.access (ownR c) : View sig .tc _ _ _).write (Elt F) f (k0_pay1 (X c)) Finset.univ i = outAt X c i := by
  intro i hi
  rw [← ownR_set] at hi
  obtain ⟨x, -, rfl⟩ := Finset.mem_map.mp hi
  rw [View.write_emb_of_mem _ _ (Finset.mem_univ x)]
  have hy : ((oM.access (ownR c) : View sig .tc _ _ _).emb x 0).val = 1024 * (c.val / 4 % 2) + (x 0).val := by
    show (k0_off1 c 0) + 1 * (x 0).val = _
    rw [k0_off1_eq]; simp
  have hy1 : ((oM.access (ownR c) : View sig .tc _ _ _).emb x 1).val = (x 1).val := by
    show (k0_off1 c 1) + 1 * (x 1).val = _
    rw [k0_off1_eq]; simp
  have hx0 : (x 0).val < 1024 := (x 0).isLt
  have hs : srcB c (blk ((oM.access (ownR c) : View sig .tc _ _ _).emb x)) = c := by
    unfold srcB
    refine if_pos ?_
    show ((oM.access (ownR c) : View sig .tc _ _ _).emb x 0).val / 64 / 16 = _
    rw [hy]; omega
  show k0_pay1 (X c) x = X _ _
  rw [hs]
  unfold k0_pay1
  rw [shapeCast_self]
  congr 1
  funext j
  match j with
  | 0 => exact Fin.ext (show (x 0).val = (((oM.access (ownR c) : View sig .tc _ _ _).emb x 0).val) % 1024 by rw [hy]; omega)
  | 1 => exact Fin.ext hy1.symm

/-! ## The buffer as its blocks -/

/-- The own half is the own blocks. -/
theorem ownSet_eq (c : Dev nD) : (Finset.univ.biUnion fun p : Fin 4 × Fin 4 => rows (ob c p.1 p.2)) = ownSet c := by
  ext i
  simp only [Finset.mem_biUnion, Finset.mem_univ, true_and, mem_rows, mem_ownSet]
  constructor
  · rintro ⟨p, hp⟩
    rw [hp]; exact (own_iff c (0, p)).mpr rfl
  · intro h
    obtain ⟨p, hp⟩ := (pb_bij c).2 (blk i)
    rw [← hp] at h
    have h0 := (own_iff c p).mp h
    exact ⟨p.2, by rw [← hp]; unfold pb; rw [if_pos h0]⟩

/-- The rest is the blocks that land. -/
theorem restSet_eq (c : Dev nD) : (Finset.univ.biUnion fun p : Fin 4 × Fin 4 => rows (lb c p.1 p.2)) = Finset.univ \ ownSet c := by
  ext i
  simp only [Finset.mem_biUnion, Finset.mem_univ, true_and, mem_rows, Finset.mem_sdiff, mem_ownSet]
  constructor
  · rintro ⟨p, hp⟩ h
    rw [hp] at h
    exact one_ne_zero ((own_iff c (1, p)).mp h)
  · intro h
    obtain ⟨p, hp⟩ := (pb_bij c).2 (blk i)
    rw [← hp] at h
    have h0 : ¬ p.1 = 0 := fun e => h ((own_iff c p).mpr e)
    exact ⟨p.2, by rw [← hp]; unfold pb; rw [if_neg h0]⟩

/-- All of it is all the blocks. -/
theorem allSet_eq (c : Dev nD) : (Finset.univ.biUnion fun p : Fin 2 × Fin 4 × Fin 4 => rows (pb c p)) = Finset.univ := by
  ext i
  simp only [Finset.mem_biUnion, Finset.mem_univ, true_and, mem_rows, iff_true]
  obtain ⟨p, hp⟩ := (pb_bij c).2 (blk i)
  exact ⟨p, hp.symm⟩

/-- Pieces of the own half share no row. -/
theorem ob_disjoint (c : Dev nD) (p p' : Fin 4 × Fin 4) (h : p ≠ p') : Disjoint (rows (ob c p.1 p.2)) (rows (ob c p'.1 p'.2)) :=
  rows_disjoint fun e => h (congrArg Prod.snd (pb_inj c (0, p) (0, p') e))

/-- Landing pieces share no row. -/
theorem lb_disjoint (c : Dev nD) (p p' : Fin 4 × Fin 4) (h : p ≠ p') : Disjoint (rows (lb c p.1 p.2)) (rows (lb c p'.1 p'.2)) :=
  rows_disjoint fun e => h (congrArg Prod.snd (pb_inj c (1, p) (1, p') e))

/-- The pieces of the whole buffer share no row. -/
theorem pb_disjoint (c : Dev nD) (p p' : Fin 2 × Fin 4 × Fin 4) (h : p ≠ p') : Disjoint (rows (pb c p)) (rows (pb c p')) :=
  rows_disjoint fun e => h (pb_inj c p p' e)

end Cert.Proof

end
-- ==== Proof.Schedule.lean ====
/-
  The kernel's semaphores as cells, and what each cell's units mean.

  A device has one barrier cell and 32 cells for its pieces: of each piece the cell that counts its send and the cell that
  counts its landing.  Every cell runs one round.  The barrier cell's round has three duties, one for each neighbour that
  signals it; a neighbour's unit hands over the rows of its buffer that this device will write.  A piece cell's round has
  one duty, the piece's transfer: the send's units give the sent rows back, the landing's units give the landed rows.

  Levels: staging and send cells 0, barrier cells 1, landings of lanes 0 and 1 at 2, landings of lanes 2 and 3 at 3.
-/
module

public import proofs.«01_k».proof.Proof.Blocks
public import proofs.«01_k».proof.Proof.Gen.KernelIdeal.Launch
public import Idealize.ShloMosaic.Lib.Pipeline.Launch
public import Idealize.ShloMosaic.Lib.Pipeline.TalkSites
public import Idealize.ShloMosaic.Lib.Tactic

@[expose] public section

noncomputable section

namespace Cert.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SiteBlocks (L lv)
open Idealize.ShloMosaic.TalkSites (Pay tallyL)

variable {F : FTy → Type} [FloatOps F]

/-! ## The resource algebra -/

/-- The pipeline's rounds. -/
abbrev UP : Type := URounds (GSem nD τ sig) Unit
/-- The kernel's own rounds: a cell has up to three duties. -/
abbrev UK : Type := URounds (GSem nD τ sig) (Fin 3)
/-- Both. -/
abbrev UU : Type := UP × UK

local notation "𝕄" => MT nD τ sig ℕ (Elt F) ℕ UU ℕ

/-- Where the pipeline's rounds live. -/
def EP : Emb UP (MT nD τ sig ℕ (Elt F) ℕ UU ℕ) :=
  (Emb.inl : Emb UP UU).trans (uEmb (nD := nD) (sig := sig) (Ix := ℕ) (Val := Elt F) (Name := ℕ) (U := UU) (Lvl := ℕ)).toEmb
/-- Where the kernel's rounds live. -/
def ER : Emb UK (MT nD τ sig ℕ (Elt F) ℕ UU ℕ) :=
  (Emb.inr : Emb UK UU).trans (uEmb (nD := nD) (sig := sig) (Ix := ℕ) (Val := Elt F) (Name := ℕ) (U := UU) (Lvl := ℕ)).toEmb

instance EP_landsIn : (EP : Emb UP 𝕄).LandsIn (upEmb : UEmb _ 𝕄) := by unfold EP; infer_instance
instance ER_landsIn : (ER : Emb UK 𝕄).LandsIn (upEmb : UEmb _ 𝕄) := by unfold ER; infer_instance

/-! ## Cells -/

/-- A piece's side: sent (0) or landed (1), the lane, the piece. -/
abbrev Slot : Type := Fin 2 × Fin 4 × Fin 4

/-- The semaphore of a slot, or the barrier's. -/
def osem : Option Slot → SemLoc sig
  | none => .reg barS
  | some s => .dma (dsem s)

/-- A device's cell. -/
abbrev kcell (x : Dev nD × Option Slot) : GSem nD τ sig := ((x.1 : Thread nD τ), osem x.2)

/-- Different slots have different semaphores. -/
theorem dsem_inj : ∀ s s' : Slot, dsem s = dsem s' → s = s' := by decide +kernel

/-- So do different slots and the barrier. -/
theorem osem_inj : Function.Injective osem := fun s s' h =>
  match s, s', h with
  | none, none, _ => rfl
  | none, some _, h => nomatch h
  | some _, none, h => nomatch h
  | some s, some s', h => congrArg some (dsem_inj s s' (SemLoc.dma.inj h))

/-- Different devices or slots have different cells. -/
theorem kcell_inj : Function.Injective kcell := fun x y h =>
  Prod.ext (congrArg (fun g : GSem nD τ sig => g.1.1) h) (osem_inj (congrArg (fun g : GSem nD τ sig => g.2) h))

open scoped Classical in
/-- Which of the kernel's cells a semaphore is, if it is one. -/
def slotOf (x : SemLoc sig) : Option (Option Slot) := if h : ∃ s, osem s = x then some h.choose else none

/-- The semaphore of a slot names that slot. -/
theorem slotOf_osem (s : Option Slot) : slotOf (osem s) = some s := by
  have h : ∃ s', osem s' = osem s := ⟨s, rfl⟩
  unfold slotOf
  rw [dif_pos h]
  exact congrArg some (osem_inj h.choose_spec)

/-- What a piece's transfer credits. -/
def N : ℕ := (pieceM 0 0 0).view.dmaCredit

/-- A transfer credits something. -/
theorem N_pos : 0 < N := View.dmaCredit_pos _ (by decide)

/-- All pieces credit the same. -/
theorem N_eq (a k : Fin 4) (c : Dev nD) : (pieceM a k c).view.dmaCredit = N := rfl

/-! ## Rows held -/

/-- A device's block of its result buffer, held at a share with given contents. -/
def pts (c : Dev nD) (b : Fin 32) (q : PosShare TreeShare) (f : S2048x512.Idx → Elt F .bf16) : sProp 𝕄 :=
  ((c : Thread nD τ).loc cc0_stg1_0) ↦[rows b]{q} f

/-- A block, whole, at whatever it holds. -/
def anyPts (c : Dev nD) (b : Fin 32) : sProp (MT nD τ sig ℕ (Elt F) ℕ UU ℕ) := iprop(∃ f, pts c b fullShare f)

omit [FloatOps F] in
instance pts_storable (c : Dev nD) (b : Fin 32) (q : PosShare TreeShare) (f : S2048x512.Idx → Elt F .bf16) :
    BI.Storable (upEmb : UEmb _ 𝕄) (pts c b q f) := by unfold pts; infer_instance
omit [FloatOps F] in
instance anyPts_storable (c : Dev nD) (b : Fin 32) : BI.Storable (upEmb : UEmb _ 𝕄) (anyPts (F := F) c b) := by
  unfold anyPts; infer_instance

/-- The share of its source a lane sends from: lanes 2 and 3 send the same rows, half each. -/
def share (a : Fin 4) : PosShare TreeShare :=
  match a with | 0 => fullShare | 1 => fullShare | 2 => fullShare.left | 3 => fullShare.right

/-- The lanes a signal stands for. -/
def sigLanes (d : Fin 3) : Finset (Fin 4) := match d with | 0 => {0, 1} | 1 => {2} | 2 => {3}

/-- What signal `d` hands a device: the rows of the neighbour that its lanes write. -/
def barPay (c : Dev nD) (d : Fin 3) : sProp (MT nD τ sig ℕ (Elt F) ℕ UU ℕ) :=
  bigSep (sigLanes d) fun a => bigSep Finset.univ fun k => anyPts (F := F) (nb a c) (sb c a k)

/-- What a slot's units hand a device: the rows it sent, the rows that landed. -/
def slotPay (X : Dev nD → S1024x512.Idx → Elt F .bf16) (c : Dev nD) (s : Slot) : sProp 𝕄 :=
  match s with
  | (0, a, k) => pts c (sb c a k) (share a) (outAt X c)
  | (1, a, k) => pts c (lb c a k) fullShare (outAt X c)

omit [FloatOps F] in
instance barPay_storable (c : Dev nD) (d : Fin 3) : BI.Storable (upEmb : UEmb _ 𝕄) (barPay (F := F) c d) := by
  unfold barPay; infer_instance
omit [FloatOps F] in
instance slotPay_storable (X : Dev nD → S1024x512.Idx → Elt F .bf16) (c : Dev nD) (s : Slot) :
    BI.Storable (upEmb : UEmb _ 𝕄) (slotPay X c s) := by
  unfold slotPay; split <;> infer_instance

/-! ## The schedule -/

/-- One round: three duties of one unit on a barrier cell, one duty of a piece's credit on a piece cell. -/
def Rd (X : Dev nD → S1024x512.Idx → Elt F .bf16) : Rounds.Schedule (GSem nD τ sig) (Fin 3) 𝕄 where
  duties g r := if r = 0 ∧ g.1.2 = .tc then
    match slotOf g.2 with
    | none => ∅
    | some none => Finset.univ
    | some (some _) => {0}
    else ∅
  unitless _ := False
  amount g _ _ := match slotOf g.2 with
    | some (some _) => N
    | _ => 1
  payload g _ d := match slotOf g.2 with
    | none => iprop(emp)
    | some none => barPay g.1.1 d
    | some (some s) => slotPay X g.1.1 s
  amount_pos g _ _ _ := by
    split
    · exact N_pos
    · exact Nat.one_pos

variable (X : Dev nD → S1024x512.Idx → Elt F .bf16)

instance Rd_payload_storable (g : GSem nD τ sig) (r : ℕ) (d : Fin 3) : BI.Storable (upEmb : UEmb _ 𝕄) ((Rd (F := F) X).payload g r d) := by
  unfold Rd; dsimp only
  split <;> infer_instance

/-- After round 0 no cell has a duty. -/
theorem duties_later (g : GSem nD τ sig) : ∀ r, 0 + 1 ≤ r → (Rd (F := F) X).duties g r = ∅ :=
  fun r hr => if_neg fun h => by omega

/-- A barrier cell's round has all three duties. -/
theorem duties_bar (c : Dev nD) : (Rd (F := F) X).duties (kcell (c, none)) 0 = Finset.univ := by
  dsimp only [Rd]; rw [if_pos ⟨rfl, rfl⟩, slotOf_osem]
/-- A piece cell's round has one. -/
theorem duties_slot (c : Dev nD) (s : Slot) : (Rd (F := F) X).duties (kcell (c, some s)) 0 = {0} := by
  dsimp only [Rd]; rw [if_pos ⟨rfl, rfl⟩, slotOf_osem]
/-- A signal is one unit. -/
theorem amount_bar (c : Dev nD) (d : Fin 3) : (Rd (F := F) X).amount (kcell (c, none)) 0 d = 1 := by
  dsimp only [Rd]; rw [slotOf_osem]
/-- A piece's transfer is its credit. -/
theorem amount_slot (c : Dev nD) (s : Slot) (d : Fin 3) : (Rd (F := F) X).amount (kcell (c, some s)) 0 d = N := by
  dsimp only [Rd]; rw [slotOf_osem]
/-- A signal hands over what it stands for. -/
theorem payload_bar (c : Dev nD) (d : Fin 3) : (Rd (F := F) X).payload (kcell (c, none)) 0 d = barPay c d := by
  dsimp only [Rd]; rw [slotOf_osem]
/-- A piece's transfer hands over its rows. -/
theorem payload_slot (c : Dev nD) (s : Slot) (d : Fin 3) : (Rd (F := F) X).payload (kcell (c, some s)) 0 d = slotPay X c s := by
  dsimp only [Rd]; rw [slotOf_osem]

/-- A barrier cell expects three units. -/
theorem expect_bar (c : Dev nD) : (Rd (F := F) X).expect (kcell (c, none)) 0 = 3 := by
  unfold Schedule.expect Schedule.amountOf
  rw [duties_bar, Finset.sum_congr rfl fun d _ => amount_bar X c d]; rfl
/-- A piece cell expects one transfer's credit. -/
theorem expect_slot (c : Dev nD) (s : Slot) : (Rd (F := F) X).expect (kcell (c, some s)) 0 = N := by
  unfold Schedule.expect Schedule.amountOf
  rw [duties_slot, Finset.sum_singleton, amount_slot]

/-- A slot's whole round is its payload. -/
theorem rest_slot (c : Dev nD) (s : Slot) :
    bigSep ((Rd (F := F) X).duties (kcell (c, some s)) 0 \ ∅) (fun d => (Rd (F := F) X).payload (kcell (c, some s)) 0 d) = slotPay X c s := by
  rw [Finset.sdiff_empty, duties_slot, bigSep_singleton, payload_slot]

/-- The barrier's whole round is its three payloads. -/
theorem rest_bar (c : Dev nD) :
    bigSep ((Rd (F := F) X).duties (kcell (c, none)) 0 \ ∅) (fun d => (Rd (F := F) X).payload (kcell (c, none)) 0 d)
      = bigSep Finset.univ fun d : Fin 3 => barPay c d := by
  rw [Finset.sdiff_empty, duties_bar]
  exact congrArg (bigSep Finset.univ) (funext fun d => payload_bar X c d)

/-! ## Dues -/

/-- The level a slot is waited on at. -/
def lvl (s : Slot) : ℕ := match s with | (0, _) => 0 | (1, 0, _) => 2 | (1, 1, _) => 2 | (1, 2, _) => 3 | (1, 3, _) => 3

/-- There are four levels. -/
theorem lvl_lt (s : Slot) : lvl s < 4 := by revert s; decide

/-- What signal `d` pays. -/
def paySig (c : Dev nD) (d : Fin 3) : Pay nD τ sig := (kcell (nb (sigLane d) c, none), 1, 1)
/-- What a piece's transfer pays. -/
def payPiece (c : Dev nD) (p : Fin 4 × Fin 4) : Pay nD τ sig := (kcell (nb p.1 c, some (1, p)), lvl (1, p), N)

/-- The pieces sent by the trips, in order. -/
def sends2 : List (Fin 4 × Fin 4) := four.flatMap fun k => [(2, k), (3, k)]

/-- What a device owes at the start, in the order it pays. -/
def dueL (c : Dev nD) : List (Pay nD τ sig) := [0, 1, 2].map (paySig c) ++ (sends1.map (payPiece c) ++ sends2.map (payPiece c))

/-- Its tally. -/
def O₀ (c : Dev nD) : CellTallies nD τ sig ℕ := tallyL (dueL c)

omit [FloatOps F] in
/-- A wait at level `i` while owing payments at higher levels. -/
theorem mayWait_due (c : Dev nD) (sm : SemLoc sig) (i : ℕ) (l : List (Pay nD τ sig)) (hi : i < 4)
    (hl : ∀ x ∈ l, x.1.1.2 = .tc ∧ i < x.2.1 ∧ x.2.1 < 4) :
    (levAts (L 4) lv : sProp 𝕄) ⊢ MayWait (c : Thread nD τ) sm i (tallyL l) :=
  SiteBlocks.mayWait_of hi c sm _ fun g k h => by
    obtain ⟨x, hx, rfl, rfl⟩ := TalkSites.tallyL_pos h
    obtain ⟨h1, h2, h3⟩ := hl x hx
    exact ⟨SiteBlocks.mem_L' h1 h3, h2⟩

/-- Signals owe at level 1. -/
theorem paySig_lvl (c : Dev nD) (d : Fin 3) : (paySig c d).1.1.2 = .tc ∧ (paySig c d).2.1 = 1 := ⟨rfl, rfl⟩
/-- Pieces owe at the level of their landing. -/
theorem payPiece_lvl (c : Dev nD) (p : Fin 4 × Fin 4) : (payPiece c p).1.1.2 = .tc ∧ (payPiece c p).2.1 = lvl (1, p) := ⟨rfl, rfl⟩

end Cert.Proof

end
-- ==== Proof.Steps.lean ====
/-
  One lemma for each kind of operation: a signal, the barrier wait, a piece's send, a piece's wait; each for every device,
  lane and piece.  Then the lists of them, by induction, and the trips that receive a piece and forward it on two lanes.
-/
module

public import proofs.«01_k».proof.Proof.Schedule
public import Idealize.ShloMosaic.Lib.Pipeline.BigSepL

@[expose] public section

noncomputable section

namespace Cert.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SiteBlocks (L lv)
open Idealize.ShloMosaic.TalkSites (Pay tallyL)

variable {F : FTy → Type} [FloatOps F]

local notation "𝕄" => MT nD τ sig ℕ (Elt F) ℕ UU ℕ

/-- The kernel makes no calls. -/
abbrev 𝒱₀ : Variants := Variants.none

/-- Device `c` runs a program to a postcondition. -/
abbrev runs (c : Dev nD) (P : Prog (TpuEff nD τ sig (Elt F) Λ₀ .tc) PUnit) (Q : PUnit → sProp 𝕄) : sProp 𝕄 :=
  wp frame (wpE (defs₀ (F := F)) 𝒱₀ (c : Thread nD τ) none) Set.univ P Q

/-- What a device owes, whatever waits it has recorded. -/
def owesAny (c : Dev nD) (O : CellTallies nD τ sig ℕ) : sProp (MT nD τ sig ℕ (Elt F) ℕ UU ℕ) := iprop(∃ W, owes (c : Thread nD τ) O W)

variable (X : Dev nD → S1024x512.Idx → Elt F .bf16) (K : Dev nD × Option Slot → ℕ)

/-- What every step may use: the levels, each cell's invariant, that each cell is at its round. -/
def ctx : sProp 𝕄 :=
  iprop(levAts (L 4) lv ∗ bigSep Finset.univ (fun x => cellInv ER (Rd X) (K x) (kcell x)) ∗ bigSep Finset.univ (fun x => reached ER (kcell x) 0))

instance ctx_persistent : BI.Persistent (ctx X K) := by unfold ctx; infer_instance

/-- The shared facts hold the levels, -/
theorem ctx_lev : ctx X K ⊢ (levAts (L 4) lv : sProp 𝕄) := by
  unfold ctx; iintro ⟨H, -, -⟩; iexact H
/-- every cell's invariant, -/
theorem ctx_inv (x : Dev nD × Option Slot) : ctx X K ⊢ cellInv ER (Rd X) (K x) (kcell x) := by
  refine BIBase.Entails.trans ?_ (bigSep_elim (Φ := fun x => cellInv ER (Rd X) (K x) (kcell x)) (Finset.mem_univ x))
  unfold ctx; iintro ⟨-, H, -⟩; iexact H
/-- and that every first round has begun. -/
theorem ctx_reached (x : Dev nD × Option Slot) : ctx X K ⊢ reached ER (kcell x) 0 := by
  refine BIBase.Entails.trans ?_ (bigSep_elim (Φ := fun x => (reached ER (kcell x) 0 : sProp 𝕄)) (Finset.mem_univ x))
  unfold ctx; iintro ⟨-, -, H⟩; iexact H

set_option maxRecDepth 20000 in
/-- A wait below everything owed. -/
theorem ctx_mayWait (c : Dev nD) (sm : SemLoc sig) (i : ℕ) (l : List (Pay nD τ sig)) (hi : i < 4)
    (hl : ∀ x ∈ l, x.1.1.2 = .tc ∧ i < x.2.1 ∧ x.2.1 < 4) : ctx X K ⊢ MayWait (c : Thread nD τ) sm i (tallyL l) :=
  BIBase.Entails.trans (ctx_lev (F := F) X K) (mayWait_due (F := F) c sm i l hi hl)

/-! ## Signals and the barrier wait -/

/-- What signal `d` takes: this device's rows its receiver will write, and the duty it discharges. -/
def sigPre (c : Dev nD) (d : Fin 3) : sProp (MT nD τ sig ℕ (Elt F) ℕ UU ℕ) :=
  iprop((bigSep (sigLanes d) fun a => bigSep Finset.univ fun k => anyPts (F := F) c (lb c a k)) ∗ dutyTok ER (kcell (nb (sigLane d) c, none)) 0 d)

/-- A signal's lanes lead where the signal goes. -/
theorem sigLanes_nb (d : Fin 3) (a : Fin 4) (h : a ∈ sigLanes d) (c : Dev nD) : nb (sigLane d) c = nb a c := by
  revert d a h c; decide +kernel

omit [FloatOps F] in
/-- The rows a device hands over are those its receiver's lanes write. -/
theorem barPay_nb (c : Dev nD) (d : Fin 3) :
    barPay (F := F) (nb (sigLane d) c) d = bigSep (sigLanes d) fun a => bigSep Finset.univ fun k => anyPts (F := F) c (lb c a k) := by
  unfold barPay
  refine bigSep_congr fun a ha => ?_
  rw [sigLanes_nb d a ha c, nb_nb]
  rfl

/-- A barrier cell has each signal's duty. -/
theorem mem_bar (c : Dev nD) (d : Fin 3) : d ∈ (Rd (F := F) X).duties ((c : Thread nD τ), .reg barS) 0 :=
  (duties_bar X c).symm ▸ Finset.mem_univ d

/-- What a signal pays with, as its rows. -/
theorem payload_sig (c : Dev nD) (d : Fin 3) :
    (Rd (F := F) X).payload ((nb (sigLane d) c : Thread nD τ), .reg barS) 0 d = bigSep (sigLanes d) fun a => bigSep Finset.univ fun k => anyPts (F := F) c (lb c a k) :=
  (payload_bar X (nb (sigLane d) c) d).trans (barPay_nb c d)

/-- The barrier wait takes all its round's units. -/
theorem bar_expect (c : Dev nD) : 0 + 3 = (Rd (F := F) X).expect ((c : Thread nD τ), .reg barS) 0 :=
  (Nat.zero_add 3).trans (expect_bar X c).symm

/-- And all its round's payloads. -/
theorem bar_rest (c : Dev nD) :
    bigSep ((Rd (F := F) X).duties ((c : Thread nD τ), .reg barS) 0 \ ∅) (fun d => (Rd (F := F) X).payload ((c : Thread nD τ), .reg barS) 0 d)
      = bigSep Finset.univ fun d : Fin 3 => barPay c d := rest_bar X c

/-- A signal. -/
theorem sig_step (c : Dev nD) (d : Fin 3) (l : List (Pay nD τ sig)) (rest : Prog (TpuEff nD τ sig (Elt F) Λ₀ .tc) PUnit) (Q : PUnit → sProp 𝕄) :
    iprop(ctx X K ∗ sigPre c d ∗ owesAny c (tallyL (paySig c d :: l)))
      ⊢ iprop((owesAny c (tallyL l) -∗ runs c rest Q) -∗ runs c (.op (sigOp c d) fun _ => rest) Q) := by
  unfold sigPre owesAny
  rw [sigOp, sigP_eq]
  iintro ⟨#Hc, ⟨Hrows, Ht⟩, ⟨%W, HO⟩⟩ Hk
  iapply (Rounds.wp_signal 𝒱₀ ER (Rd X) (c : Thread nD τ) none (dst := (nb (sigLane d) c : Thread nD τ)) (κ := K (nb (sigLane d) c, none)) (r := 0) (d := d)
      (mem_bar X (nb (sigLane d) c) d) (amount_bar X (nb (sigLane d) c) d) 1 (tallyL l) (add_comm _ _)) $$ [HO Ht Hrows]
  · isplitr; · iapply (ctx_inv X K (nb (sigLane d) c, none)); iexact Hc
    isplitl [HO]; · iexact HO
    isplitl [Ht]; · iexact Ht
    isplitl [Hrows]
    · rw [payload_sig]; iexact Hrows
    · iapply (ctx_reached X K (nb (sigLane d) c, none)); iexact Hc
  iintro HO
  iapply Hk
  iexists W
  iexact HO

/-- Signals in order. -/
theorem sigs_run (c : Dev nD) (ds : List (Fin 3)) (l : List (Pay nD τ sig)) (rest : Prog (TpuEff nD τ sig (Elt F) Λ₀ .tc) PUnit) (Q : PUnit → sProp 𝕄) :
    iprop(ctx X K ∗ bigSepL ds (sigPre c) ∗ owesAny c (tallyL (ds.map (paySig c) ++ l)))
      ⊢ iprop((owesAny c (tallyL l) -∗ runs c rest Q) -∗ runs c (runL (ds.map (sigOp c)) rest) Q) := by
  induction ds with
  | nil =>
    iintro ⟨-, -, HO⟩ Hk
    iapply Hk
    iexact HO
  | cons d ds ih =>
    rw [bigSepL_cons']
    iintro ⟨#Hc, ⟨Hp, Hps⟩, HO⟩ Hk
    iapply (sig_step X K c d (ds.map (paySig c) ++ l) (runL (ds.map (sigOp c)) rest) Q) $$ [Hp HO]
    · isplitr; · iexact Hc
      isplitl [Hp]; · iexact Hp
      iexact HO
    iintro HO
    iapply ih $$ [Hps HO]
    · isplitr; · iexact Hc
      isplitl [Hps]; · iexact Hps
      iexact HO
    iexact Hk

/-- The wait at the barrier: the three neighbours' rows come with it, and the cell closes. -/
theorem bar_step (c : Dev nD) (l : List (Pay nD τ sig)) (hl : ∀ x ∈ l, x.1.1.2 = .tc ∧ 1 < x.2.1 ∧ x.2.1 < 4)
    (rest : Prog (TpuEff nD τ sig (Elt F) Λ₀ .tc) PUnit) (Q : PUnit → sProp 𝕄) :
    iprop(ctx X K ∗ (cred (tallyAt (kcell (c, none)) 1 3) ∗ atPos ER (kcell (c, none)) 0 ∅ 0) ∗ owesAny c (tallyL l))
      ⊢ iprop(((semVal (kcell (c, none)) 0 ∗ bigSep Finset.univ (fun d : Fin 3 => barPay c d) ∗ owesAny c (tallyL l)) -∗ runs c rest Q)
          -∗ runs c (.op (.semWait barS 3) fun _ => rest) Q) := by
  unfold owesAny
  iintro ⟨#Hc, ⟨Hcr, Hat⟩, ⟨%W, HO⟩⟩ Hk
  iapply (Rounds.wp_wait_rest_token 𝒱₀ ER (Rd X) (c : Thread nD τ) none (κ := K (c, none)) (sm := .reg barS) (k' := 3)
      (wpE_semWait_eq 𝒱₀ (c : Thread nD τ) none Set.univ) (Set.mem_univ _) 1 (O := tallyL l) (W := W) (R := 0) (m := 0) (T := ∅)
      (bar_expect X c)) $$ [Hcr HO Hat]
  · isplitr; · iapply (ctx_inv X K (c, none)); iexact Hc
    isplitl [Hcr]; · iexact Hcr
    isplitl [HO]; · iexact HO
    isplitr; · iapply (ctx_mayWait X K c (.reg barS) 1 l (by decide) hl); iexact Hc
    iexact Hat
  iintro ⟨HO, Hat, -, Hpay⟩
  ihave Hp := (Entails.of_eq (bar_rest X c)) $$ Hpay
  imod (Rounds.cell_close ER (Rd X) (Set.mem_univ (K (c, none))) (fun h => h) (R := 0 + 1) (duties_later X (kcell (c, none)))) $$ [Hat] with Hz
  · isplitr; · iapply (ctx_inv X K (c, none)); iexact Hc
    iexact Hat
  iapply Hk
  isplitl [Hz]; · iexact Hz
  isplitl [Hp]; · iexact Hp
  iexists _
  iexact HO

/-! ## Sends -/

omit [FloatOps F] in
/-- A block held is the piece's view held, at either end. -/
theorem pts_piece (a k : Fin 4) (c n : Dev nD) (q : PosShare TreeShare) (f : S2048x512.Idx → Elt F .bf16) :
    (pts n (sb c a k) q f : sProp 𝕄) = ((pieceM a k c).view.loc (n : Thread nD τ) ↦[(pieceM a k c).view.set]{q} f) := by
  unfold pts; rw [pieceM_set]

/-- What a send takes besides its source: the receiver's rows, and the two duties it discharges. -/
def sendRest (c : Dev nD) (p : Fin 4 × Fin 4) : sProp (MT nD τ sig ℕ (Elt F) ℕ UU ℕ) :=
  iprop(anyPts (F := F) (nb p.1 c) (sb c p.1 p.2) ∗ dutyTok ER (kcell (c, some (0, p))) 0 0 ∗ dutyTok ER (kcell (nb p.1 c, some (1, p))) 0 0)

/-- All a send takes. -/
def sendPre (c : Dev nD) (p : Fin 4 × Fin 4) : sProp 𝕄 := iprop(pts c (sb c p.1 p.2) (share p.1) (outAt X c) ∗ sendRest c p)

/-- What a send leaves: the credit its wait spends. -/
def sentCred (c : Dev nD) (p : Fin 4 × Fin 4) : sProp (MT nD τ sig ℕ (Elt F) ℕ UU ℕ) := cred (tallyAt (kcell (c, some (0, p))) 0 N)

/-- A piece's cell has its one duty, -/
theorem mem_slot (c : Dev nD) (s : Slot) : 0 ∈ (Rd (F := F) X).duties ((c : Thread nD τ), .dma (dsem s)) 0 :=
  (duties_slot X c s).symm ▸ Finset.mem_singleton_self _
/-- of a piece's credit, -/
theorem slot_amount (c : Dev nD) (s : Slot) : (Rd (F := F) X).amount ((c : Thread nD τ), .dma (dsem s)) 0 0 = N := amount_slot X c s 0
/-- and a piece's view credits that. -/
theorem piece_amount (a k : Fin 4) (c : Dev nD) (s : DmaSem sig) : (pieceM a k c).view.amount (.dma s) = N := rfl
/-- A wait takes the whole of it. -/
theorem slot_expect (c : Dev nD) (s : Slot) : 0 + N = (Rd (F := F) X).expect ((c : Thread nD τ), .dma (dsem s)) 0 :=
  (Nat.zero_add N).trans (expect_slot X c s).symm

/-- It brings the rows. -/
theorem slot_rest (c : Dev nD) (s : Slot) :
    bigSep ((Rd (F := F) X).duties ((c : Thread nD τ), .dma (dsem s)) 0 \ ∅) (fun d => (Rd (F := F) X).payload ((c : Thread nD τ), .dma (dsem s)) 0 d) = slotPay X c s :=
  rest_slot X c s

/-- The sent rows are the send duty's payload. -/
theorem send_pay (a k : Fin 4) (c : Dev nD) :
    ((pieceM a k c).view.loc (c : Thread nD τ) ↦[(pieceM a k c).view.set]{share a} outAt X c : sProp 𝕄)
      ⊢ (Rd (F := F) X).payload ((c : Thread nD τ), .dma (dsem (0, a, k))) 0 0 :=
  Entails.of_eq ((pts_piece a k c c (share a) (outAt X c)).symm.trans (payload_slot X c (0, a, k) 0).symm)

/-- The receiver's rows, rewritten, are the landing duty's payload. -/
theorem land_pay (a k : Fin 4) (c : Dev nD) (fd : S2048x512.Idx → Elt F .bf16) :
    ((pieceM a k c).view.loc (nb a c : Thread nD τ) ↦[(pieceM a k c).view.set]{fullShare}
        ((pieceM a k c).view.write (Elt F) fd ((pieceM a k c).view.read (Elt F) (outAt X c)) Finset.univ) : sProp 𝕄)
      ⊢ (Rd (F := F) X).payload ((nb a c : Thread nD τ), .dma (dsem (1, a, k))) 0 0 := by
  refine Entails.of_eq (((pts_piece a k c (nb a c) fullShare _).symm.trans ?_).trans (payload_slot X (nb a c) (1, a, k) 0).symm)
  show pts (nb a c) (sb c a k) fullShare _ = pts (nb a c) (lb (nb a c) a k) fullShare (outAt X (nb a c))
  unfold lb
  rw [nb_nb]
  exact pointsTo_congr (land_eq X a k c fd)

/-- The rule of an addressed transfer at a piece's cells, the target a device equal to the neighbour. -/
theorem send_rule (c n : Dev nD) (a k : Fin 4) (hn : n = nb a c)
    {hsc : (pieceM a k c : Memref sig (Dev.tc n : Thread nD τ).2.kind .vmem S64x512 .bf16).view.ref.isScScratch = false}
    {hsrc : (pieceM a k c).view.WordExact} {hdst : (pieceM a k c).view.WordExact}
    {hsem : DmaTarget.Typed .vmem (.dma (dsem (1, a, k))) (.remote (Dev.tc n : Thread nD τ) (pieceM a k c) (.dma (dsem (0, a, k))) hsc)}
    (l : List (Pay nD τ sig)) (W : Waits sig ℕ) (rest : Prog (TpuEff nD τ sig (Elt F) Λ₀ .tc) PUnit) (Q : PUnit → sProp 𝕄)
    (fd : S2048x512.Idx → Elt F .bf16) :
    iprop(cellInv ER (Rd X) (K (c, some (0, a, k))) (kcell (c, some (0, a, k))) ∗ cellInv ER (Rd X) (K (nb a c, some (1, a, k))) (kcell (nb a c, some (1, a, k)))
        ∗ pts c (sb c a k) (share a) (outAt X c) ∗ pts (nb a c) (sb c a k) fullShare fd
        ∗ owes (c : Thread nD τ) (tallyL (payPiece c (a, k) :: l)) W
        ∗ dutyTok ER (kcell (c, some (0, a, k))) 0 0 ∗ reached ER (kcell (c, some (0, a, k))) 0
        ∗ dutyTok ER (kcell (nb a c, some (1, a, k))) 0 0 ∗ reached ER (kcell (nb a c, some (1, a, k))) 0)
      ⊢ iprop(((sentCred c (a, k) ∗ owes (c : Thread nD τ) (tallyL l) W) -∗ runs c rest Q)
          -∗ runs c (.op (.enqueueDma (pieceM a k c) (.remote (Dev.tc n : Thread nD τ) (pieceM a k c) (.dma (dsem (0, a, k))) hsc) (.dma (dsem (1, a, k))) hsrc hdst hsem)
              fun _ => rest) Q) := by
  subst hn
  rw [pts_piece a k c c, pts_piece a k c (nb a c)]
  unfold sentCred
  exact Rounds.wp_send_pointsTo 𝒱₀ ER (Rd X) (c : Thread nD τ) none (κ₁ := K (c, some (0, a, k))) (κ₂ := K (nb a c, some (1, a, k)))
    (c' := (nb a c : Thread nD τ)) (O₀ := tallyL (payPiece c (a, k) :: l)) (k := fun _ => rest) (Q := Q) (Es := Set.univ) (src := pieceM a k c) (dst := pieceM a k c) (sS := .dma (dsem (0, a, k))) (sem := .dma (dsem (1, a, k)))
    (r₁ := 0) (r₂ := 0) (d₁ := 0) (d₂ := 0) (fd := fd) (fs := outAt X c) (q := share a)
    (mem_slot X c (0, a, k)) (mem_slot X (nb a c) (1, a, k)) (lvl (1, a, k)) 0 N (piece_amount a k c _)
    (slot_amount X c (0, a, k)) (slot_amount X (nb a c) (1, a, k)) (tallyL l) (add_comm _ _) (W := W)
    (send_pay X a k c) (land_pay X a k c fd)

/-- A send. -/
theorem send_step (c : Dev nD) (p : Fin 4 × Fin 4) (l : List (Pay nD τ sig)) (rest : Prog (TpuEff nD τ sig (Elt F) Λ₀ .tc) PUnit) (Q : PUnit → sProp 𝕄) :
    iprop(ctx X K ∗ sendPre X c p ∗ owesAny c (tallyL (payPiece c p :: l)))
      ⊢ iprop(((sentCred c p ∗ owesAny c (tallyL l)) -∗ runs c rest Q) -∗ runs c (.op (sendOp c p) fun _ => rest) Q) := by
  obtain ⟨a, k⟩ := p
  unfold sendPre sendRest owesAny anyPts
  iintro ⟨#Hc, ⟨Hsrc, ⟨%fd, Hdst⟩, Ht, Ht'⟩, ⟨%W, HO⟩⟩ Hk
  iapply (send_rule X K c (devP a k c) a k (devP_eq a k c) l W rest Q fd) $$ [Hsrc Hdst Ht Ht' HO]
  · isplitr; · iapply (ctx_inv X K (c, some (0, a, k))); iexact Hc
    isplitr; · iapply (ctx_inv X K (nb a c, some (1, a, k))); iexact Hc
    isplitl [Hsrc]; · iexact Hsrc
    isplitl [Hdst]; · iexact Hdst
    isplitl [HO]; · iexact HO
    isplitl [Ht]; · iexact Ht
    isplitr; · iapply (ctx_reached X K (c, some (0, a, k))); iexact Hc
    isplitl [Ht']; · iexact Ht'
    iapply (ctx_reached X K (nb a c, some (1, a, k))); iexact Hc
  iintro ⟨Hcr, HO⟩
  iapply Hk
  isplitl [Hcr]; · iexact Hcr
  iexists W
  iexact HO

/-- Sends in order. -/
theorem sends_run (c : Dev nD) (ps : List (Fin 4 × Fin 4)) (l : List (Pay nD τ sig)) (rest : Prog (TpuEff nD τ sig (Elt F) Λ₀ .tc) PUnit) (Q : PUnit → sProp 𝕄) :
    iprop(ctx X K ∗ bigSepL ps (sendPre X c) ∗ owesAny c (tallyL (ps.map (payPiece c) ++ l)))
      ⊢ iprop(((bigSepL ps (sentCred c) ∗ owesAny c (tallyL l)) -∗ runs c rest Q) -∗ runs c (runL (ps.map (sendOp c)) rest) Q) := by
  induction ps with
  | nil =>
    iintro ⟨-, -, HO⟩ Hk
    iapply Hk
    isplitr; · iempintro
    iexact HO
  | cons p ps ih =>
    rw [bigSepL_cons', bigSepL_cons']
    iintro ⟨#Hc, ⟨Hp, Hps⟩, HO⟩ Hk
    iapply (send_step X K c p (ps.map (payPiece c) ++ l) (runL (ps.map (sendOp c)) rest) Q) $$ [Hp HO]
    · isplitr; · iexact Hc
      isplitl [Hp]; · iexact Hp
      iexact HO
    iintro ⟨Hcr, HO⟩
    iapply ih $$ [Hps HO]
    · isplitr; · iexact Hc
      isplitl [Hps]; · iexact Hps
      iexact HO
    iintro ⟨Hcrs, HO⟩
    iapply Hk
    isplitl [Hcr Hcrs]
    · isplitl [Hcr]; · iexact Hcr
      iexact Hcrs
    iexact HO

/-! ## Waits -/

/-- What a wait takes: its cell's credit, the cell's position. -/
def waitRes (c : Dev nD) (s : Slot) : sProp (MT nD τ sig ℕ (Elt F) ℕ UU ℕ) :=
  iprop(cred (tallyAt (kcell (c, some s)) (lvl s) N) ∗ atPos ER (kcell (c, some s)) 0 ∅ 0)

/-- What a wait leaves: the cell closed at zero, the rows. -/
def waitDone (c : Dev nD) (s : Slot) : sProp 𝕄 := iprop(semVal (kcell (c, some s)) 0 ∗ slotPay X c s)

/-- A wait, while owing at higher levels. -/
theorem wait_step (c : Dev nD) (s : Slot) (l : List (Pay nD τ sig)) (hl : ∀ x ∈ l, x.1.1.2 = .tc ∧ lvl s < x.2.1 ∧ x.2.1 < 4)
    (rest : Prog (TpuEff nD τ sig (Elt F) Λ₀ .tc) PUnit) (Q : PUnit → sProp 𝕄) :
    iprop(ctx X K ∗ waitRes c s ∗ owesAny c (tallyL l))
      ⊢ iprop(((waitDone X c s ∗ owesAny c (tallyL l)) -∗ runs c rest Q) -∗ runs c (.op (waitOp c s) fun _ => rest) Q) := by
  unfold owesAny waitRes waitDone
  iintro ⟨#Hc, ⟨Hcr, Hat⟩, ⟨%W, HO⟩⟩ Hk
  iapply (Rounds.wp_wait_rest_token 𝒱₀ ER (Rd X) (c : Thread nD τ) none (κ := K (c, some s)) (w := waitOp c s) (sm := .dma (dsem s)) (k' := N)
      (wpE_waitDma2_eq 𝒱₀ (c : Thread nD τ) none Set.univ) (Set.mem_univ _) (lvl s) (O := tallyL l) (W := W) (R := 0) (m := 0) (T := ∅)
      (slot_expect X c s)) $$ [Hcr HO Hat]
  · isplitr; · iapply (ctx_inv X K (c, some s)); iexact Hc
    isplitl [Hcr]; · iexact Hcr
    isplitl [HO]; · iexact HO
    isplitr; · iapply (ctx_mayWait X K c (.dma (dsem s)) (lvl s) l (lvl_lt s) hl); iexact Hc
    iexact Hat
  iintro ⟨HO, Hat, -, Hpay⟩
  ihave Hp := (Entails.of_eq (slot_rest X c s)) $$ Hpay
  imod (Rounds.cell_close ER (Rd X) (Set.mem_univ (K (c, some s))) (fun h => h) (R := 0 + 1) (duties_later X (kcell (c, some s)))) $$ [Hat] with Hz
  · isplitr; · iapply (ctx_inv X K (c, some s)); iexact Hc
    iexact Hat
  iapply Hk
  isplitl [Hz Hp]
  · isplitl [Hz]; · iexact Hz
    iexact Hp
  iexists _
  iexact HO

/-- Waits in order, all below what is owed. -/
theorem waits_run (c : Dev nD) (ss : List Slot) (l : List (Pay nD τ sig)) (hl : ∀ s ∈ ss, ∀ x ∈ l, x.1.1.2 = .tc ∧ lvl s < x.2.1 ∧ x.2.1 < 4)
    (rest : Prog (TpuEff nD τ sig (Elt F) Λ₀ .tc) PUnit) (Q : PUnit → sProp 𝕄) :
    iprop(ctx X K ∗ bigSepL ss (waitRes c) ∗ owesAny c (tallyL l))
      ⊢ iprop(((bigSepL ss (waitDone X c) ∗ owesAny c (tallyL l)) -∗ runs c rest Q) -∗ runs c (runL (ss.map (waitOp c)) rest) Q) := by
  induction ss with
  | nil =>
    iintro ⟨-, -, HO⟩ Hk
    iapply Hk
    isplitr; · iempintro
    iexact HO
  | cons s ss ih =>
    rw [bigSepL_cons', bigSepL_cons']
    iintro ⟨#Hc, ⟨Hp, Hps⟩, HO⟩ Hk
    iapply (wait_step X K c s l (hl s List.mem_cons_self) (runL (ss.map (waitOp c)) rest) Q) $$ [Hp HO]
    · isplitr; · iexact Hc
      isplitl [Hp]; · iexact Hp
      iexact HO
    iintro ⟨Hd, HO⟩
    iapply (ih fun s' hs' => hl s' (List.mem_cons_of_mem _ hs')) $$ [Hps HO]
    · isplitr; · iexact Hc
      isplitl [Hps]; · iexact Hps
      iexact HO
    iintro ⟨Hds, HO⟩
    iapply Hk
    isplitl [Hd Hds]
    · isplitl [Hd]; · iexact Hd
      iexact Hds
    iexact HO

/-! ## Trips -/

/-- What a trip takes: its wait's, and its two sends' but for their source, which the wait brings. -/
def tripPre (c : Dev nD) (k : Fin 4) : sProp (MT nD τ sig ℕ (Elt F) ℕ UU ℕ) :=
  iprop(waitRes c (1, 0, k) ∗ sendRest (F := F) c (2, k) ∗ sendRest (F := F) c (3, k))

/-- What a trip leaves: its landing's cell closed, its sends' credits. -/
def tripPost (c : Dev nD) (k : Fin 4) : sProp (MT nD τ sig ℕ (Elt F) ℕ UU ℕ) :=
  iprop(semVal (kcell (c, some (1, 0, k))) 0 ∗ sentCred (F := F) c (2, k) ∗ sentCred (F := F) c (3, k))

omit [FloatOps F] in
/-- A landed piece of lane 0, whole, is the sources of lanes 2 and 3. -/
theorem landed_split (c : Dev nD) (k : Fin 4) :
    (slotPay X c (1, 0, k) : sProp 𝕄) = iprop(pts c (sb c 2 k) (share 2) (outAt X c) ∗ pts c (sb c 3 k) (share 3) (outAt X c)) := by
  show (pts c (lb c 0 k) fullShare (outAt X c) : sProp 𝕄) = _
  rw [(sb_forward c k).1, (sb_forward c k).2]
  unfold pts
  exact BI.Entails.antisymm (pointsTo_share (PosShare.mem_left_op_right fullShare)).1 (pointsTo_share (PosShare.mem_left_op_right fullShare)).2

/-- One trip, while owing its two sends and more sends of lanes 2 and 3. -/
theorem trip_step (c : Dev nD) (k : Fin 4) (l : List (Pay nD τ sig)) (hl : ∀ x ∈ l, x.1.1.2 = .tc ∧ 2 < x.2.1 ∧ x.2.1 < 4)
    (rest : Prog (TpuEff nD τ sig (Elt F) Λ₀ .tc) PUnit) (Q : PUnit → sProp 𝕄) :
    iprop(ctx X K ∗ tripPre c k ∗ owesAny c (tallyL (payPiece c (2, k) :: payPiece c (3, k) :: l)))
      ⊢ iprop(((tripPost c k ∗ owesAny c (tallyL l)) -∗ runs c rest Q) -∗ runs c (runL (tripOps c k) rest) Q) := by
  unfold tripPre tripPost
  show _ ⊢ iprop(_ -∗ runs c (.op (waitOp c (1, 0, k)) fun _ => .op (sendOp c (2, k)) fun _ => .op (sendOp c (3, k)) fun _ => rest) Q)
  iintro ⟨#Hc, ⟨Hw, H2, H3⟩, HO⟩ Hk
  iapply (wait_step X K c (1, 0, k) (payPiece c (2, k) :: payPiece c (3, k) :: l) (fun x hx => by
      rcases List.mem_cons.mp hx with rfl | hx
      · exact ⟨rfl, Nat.lt_succ_self 2, Nat.lt_succ_self 3⟩
      rcases List.mem_cons.mp hx with rfl | hx
      · exact ⟨rfl, Nat.lt_succ_self 2, Nat.lt_succ_self 3⟩
      exact hl x hx) _ Q) $$ [Hw HO]
  · isplitr; · iexact Hc
    isplitl [Hw]; · iexact Hw
    iexact HO
  unfold waitDone
  iintro ⟨⟨Hz, Hl⟩, HO⟩
  ihave Hs := (Entails.of_eq (landed_split X c k)) $$ Hl
  icases Hs with ⟨Hs2, Hs3⟩
  iapply (send_step X K c (2, k) _ _ Q) $$ [Hs2 H2 HO]
  · isplitr; · iexact Hc
    isplitl [Hs2 H2]
    · unfold sendPre; isplitl [Hs2]; · iexact Hs2
      iexact H2
    iexact HO
  iintro ⟨Hc2, HO⟩
  iapply (send_step X K c (3, k) _ _ Q) $$ [Hs3 H3 HO]
  · isplitr; · iexact Hc
    isplitl [Hs3 H3]
    · unfold sendPre; isplitl [Hs3]; · iexact Hs3
      iexact H3
    iexact HO
  iintro ⟨Hc3, HO⟩
  iapply Hk
  isplitl [Hz Hc2 Hc3]
  · isplitl [Hz]; · iexact Hz
    isplitl [Hc2]; · iexact Hc2
    iexact Hc3
  iexact HO

/-- Trips in order. -/
theorem trips_run (c : Dev nD) (ks : List (Fin 4)) (rest : Prog (TpuEff nD τ sig (Elt F) Λ₀ .tc) PUnit) (Q : PUnit → sProp 𝕄) :
    iprop(ctx X K ∗ bigSepL ks (tripPre c) ∗ owesAny c (tallyL ((ks.flatMap fun k => [(2, k), (3, k)]).map (payPiece c))))
      ⊢ iprop(((bigSepL ks (tripPost c) ∗ owesAny c (tallyL [])) -∗ runs c rest Q) -∗ runs c (runL (ks.flatMap (tripOps c)) rest) Q) := by
  induction ks with
  | nil =>
    iintro ⟨-, -, HO⟩ Hk
    iapply Hk
    isplitr; · iempintro
    iexact HO
  | cons k ks ih =>
    rw [bigSepL_cons', bigSepL_cons', show (k :: ks).flatMap (tripOps c) = tripOps (F := F) c k ++ ks.flatMap (tripOps c) from rfl, runL_append]
    iintro ⟨#Hc, ⟨Hp, Hps⟩, HO⟩ Hk
    iapply (trip_step X K c k ((ks.flatMap fun k => [(2, k), (3, k)]).map (payPiece c)) (fun x hx => by
        obtain ⟨p, hp, rfl⟩ := List.mem_map.mp hx
        obtain ⟨k', -, hp⟩ := List.mem_flatMap.mp hp
        rcases List.mem_cons.mp hp with rfl | hp
        · exact ⟨rfl, Nat.lt_succ_self 2, Nat.lt_succ_self 3⟩
        obtain rfl := List.mem_singleton.mp hp
        exact ⟨rfl, Nat.lt_succ_self 2, Nat.lt_succ_self 3⟩) (runL (ks.flatMap (tripOps c)) rest) Q) $$ [Hp HO]
    · isplitr; · iexact Hc
      isplitl [Hp]; · iexact Hp
      iexact HO
    iintro ⟨Hd, HO⟩
    iapply ih $$ [Hps HO]
    · isplitr; · iexact Hc
      isplitl [Hps]; · iexact Hps
      iexact HO
    iintro ⟨Hds, HO⟩
    iapply Hk
    isplitl [Hd Hds]
    · isplitl [Hd]; · iexact Hd
      iexact Hds
    iexact HO

end Cert.Proof

end
-- ==== Proof.Lists.lean ====
/-
  The schedule's lists as families: a list of a lane's pieces, or of two lanes' pieces in turn, is the family over the
  pieces; the lists of sends, landings and waits are all pieces.
-/
module

public import proofs.«01_k».proof.Proof.Steps

@[expose] public section

noncomputable section

namespace Cert.Proof

open Cert.KernelIdeal Cert.KernelIdeal.Gen
open Idealize.ShloMosaic
open Idealize.SL Idealize.SL.RA Idealize.SL.BI
open scoped Idealize.SL.BI
open Idealize.SL.BI.BIBase Idealize.SL.BI.Laws Idealize.SL.ProofMode Idealize.SL.Sem

universe u
variable {M : Type u} [URA M]

/-- Regrouping. -/
theorem assoc_eq (P Q R : sProp M) : iprop((P ∗ Q) ∗ R) = iprop(P ∗ Q ∗ R) :=
  BI.Entails.antisymm (Laws.sep_assoc (PROP := sProp M)).1 (Laws.sep_assoc (PROP := sProp M)).2

/-- A family over the pieces of one lane. -/
abbrev lane (Φ : Fin 4 → sProp M) : sProp M := bigSep Finset.univ Φ

/-- The list of four has every index. -/
theorem four_all : (Finset.univ : Finset (Fin 4)) = four.toFinset := by decide
/-- It has none twice. -/
theorem four_nodup : four.Nodup := by decide

/-- A list over the pieces is the family. -/
theorem four_eq (Φ : Fin 4 → sProp M) : bigSepL four Φ = lane Φ := (bigSep_univ_eq_bigSepL four four_all four_nodup Φ).symm

/-- A lane's list. -/
theorem lane_eq {I : Type} (f : Fin 4 → I) (Φ : I → sProp M) : bigSepL (four.map f) Φ = lane fun k => Φ (f k) := by
  rw [bigSepL_map, four_eq]

/-- Two lanes' lists, piece by piece. -/
theorem pairs_list {I : Type} (f g : Fin 4 → I) (Φ : I → sProp M) (ks : List (Fin 4)) :
    bigSepL (ks.flatMap fun k => [f k, g k]) Φ = bigSepL ks fun k => iprop(Φ (f k) ∗ Φ (g k)) := by
  induction ks with
  | nil => rfl
  | cons k ks ih =>
    rw [List.flatMap_cons, bigSepL_append, ih, bigSepL_cons' k ks]
    rfl

/-- As families. -/
theorem pairs_eq {I : Type} (f g : Fin 4 → I) (Φ : I → sProp M) :
    bigSepL (four.flatMap fun k => [f k, g k]) Φ = iprop((lane fun k => Φ (f k)) ∗ lane fun k => Φ (g k)) := by
  rw [pairs_list, four_eq]
  exact bigSep_sep Finset.univ (fun k => Φ (f k)) (fun k => Φ (g k))

/-- A family over four. -/
theorem fin4_eq (Ψ : Fin 4 → sProp M) : bigSep Finset.univ Ψ = iprop(Ψ 0 ∗ Ψ 1 ∗ Ψ 2 ∗ Ψ 3) :=
  bigSep_univ_eq_bigSepL four four_all four_nodup Ψ

/-- All pieces, lane by lane. -/
theorem lanes_eq (Φ : Fin 4 × Fin 4 → sProp M) :
    bigSep Finset.univ Φ = iprop((lane fun k => Φ (0, k)) ∗ (lane fun k => Φ (1, k)) ∗ (lane fun k => Φ (2, k)) ∗ lane fun k => Φ (3, k)) := by
  rw [bigSep_univ_prod, fin4_eq]

/-- All slots: the sends, the landings. -/
theorem slots_eq (Φ : Slot → sProp M) :
    bigSep Finset.univ Φ = iprop((bigSep Finset.univ fun p => Φ (0, p)) ∗ bigSep Finset.univ fun p => Φ (1, p)) := by
  rw [bigSep_univ_prod]
  exact bigSep_fin_two _

/-- The first sends. -/
theorem sends1_eq (Φ : Fin 4 × Fin 4 → sProp M) : bigSepL sends1 Φ = iprop((lane fun k => Φ (0, k)) ∗ lane fun k => Φ (1, k)) := by
  unfold sends1
  rw [bigSepL_append, lane_eq, lane_eq]

/-- The landings waited for after the trips. -/
theorem lands_eq (Φ : Slot → sProp M) :
    bigSepL lands Φ = iprop((lane fun k => Φ (1, 1, k)) ∗ (lane fun k => Φ (1, 2, k)) ∗ lane fun k => Φ (1, 3, k)) := by
  unfold lands
  rw [bigSepL_append, lane_eq, pairs_eq]

/-- All sends' waits. -/
theorem sents_eq (Φ : Slot → sProp M) : bigSepL sents Φ = bigSep Finset.univ fun p => Φ (0, p) := by
  unfold sents
  rw [bigSepL_append, bigSepL_append, lane_eq, lane_eq, pairs_eq, lanes_eq]
  exact assoc_eq _ _ _

/-- The signals' lanes are all lanes. -/
theorem sigLanes_eq (Ψ : Fin 4 → sProp M) : (bigSep Finset.univ fun d : Fin 3 => bigSep (sigLanes d) Ψ) = bigSep Finset.univ Ψ := by
  rw [bigSep_univ_eq_bigSepL [(0 : Fin 3), 1, 2] (by decide) (by decide), fin4_eq,
    bigSepL_cons', bigSepL_cons', bigSepL_singleton,
    bigSep_eq_bigSepL_of_eq (S := sigLanes 0) [(0 : Fin 4), 1] (by decide) (by decide), bigSep_eq_bigSepL_of_eq (S := sigLanes 1) [(2 : Fin 4)] (by decide) (by decide),
    bigSep_eq_bigSepL_of_eq (S := sigLanes 2) [(3 : Fin 4)] (by decide) (by decide)]
  exact assoc_eq _ _ _

/-- Three in order are the family. -/
theorem fin3_eq (Ψ : Fin 3 → sProp M) : bigSepL [0, 1, 2] Ψ = bigSep Finset.univ Ψ :=
  (bigSep_univ_eq_bigSepL [(0 : Fin 3), 1, 2] (by decide) (by decide) Ψ).symm

end Cert.Proof

end
-- ==== Proof.After.lean ====
/-
  The body after the barrier: the sends of lanes 0 and 1, the trips, the waits.  It starts from the own half's rows and the
  neighbours' rows, and ends with the whole result and every piece's cell closed at zero.
-/
module

public import proofs.«01_k».proof.Proof.Lists
public import Idealize.ShloMosaic.Lib.Ring

@[expose] public section

noncomputable section

namespace Cert.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SiteBlocks (L lv)
open Idealize.ShloMosaic.TalkSites (Pay tallyL)

variable {F : FTy → Type} [FloatOps F]

local notation "𝕄" => MT nD τ sig ℕ (Elt F) ℕ UU ℕ

variable (X : Dev nD → S1024x512.Idx → Elt F .bf16) (K : Dev nD × Option Slot → ℕ)

/-! ## Regrouping -/

omit [FloatOps F] in
/-- Two families over the pieces side by side. -/
theorem lane_sep (Φ Ψ : Fin 4 → sProp 𝕄) : iprop(lane Φ ∗ lane Ψ) = (lane fun k => iprop(Φ k ∗ Ψ k)) := (bigSep_sep Finset.univ Φ Ψ).symm

omit [FloatOps F] in
/-- Two families side by side, over any finite index. -/
theorem both_eq {I : Type} [Fintype I] (Φ Ψ : I → sProp 𝕄) :
    iprop((bigSep Finset.univ Φ) ∗ bigSep Finset.univ Ψ) = bigSep Finset.univ fun p => iprop(Φ p ∗ Ψ p) := (bigSep_sep Finset.univ Φ Ψ).symm

/-- A device's result buffer, whole, at its result. -/
def outPts (c : Dev nD) : sProp 𝕄 := ((c : Thread nD τ).loc cc0_stg1_0) ↦{fullShare} outAt X c

omit [FloatOps F] in
/-- The whole buffer is its blocks. -/
theorem outPts_eq (c : Dev nD) :
    (outPts X c : sProp 𝕄) = iprop((bigSep Finset.univ fun p : Fin 4 × Fin 4 => pts c (ob c p.1 p.2) fullShare (outAt X c))
      ∗ bigSep Finset.univ fun p : Fin 4 × Fin 4 => slotPay X c (1, p)) := by
  refine (Ring.pointsTo_blocks (ℓ := (c : Thread nD τ).loc cc0_stg1_0) (fun p => rows (pb c p)) (pb_disjoint c) (allSet_eq c) (outAt X c)).trans ?_
  rw [slots_eq]
  rfl

omit [FloatOps F] in
/-- Lanes 0 and 1 send own rows, whole. -/
theorem own_lane (c : Dev nD) :
    (lane fun k => (pts c (ob c 0 k) fullShare (outAt X c) : sProp 𝕄)) = (lane fun k => pts c (sb c 0 k) (share 0) (outAt X c))
    ∧ (lane fun k => (pts c (ob c 1 k) fullShare (outAt X c) : sProp 𝕄)) = (lane fun k => pts c (sb c 1 k) (share 1) (outAt X c)) :=
  ⟨congrArg lane (funext fun k => by rw [(sb_own c k).1]; rfl), congrArg lane (funext fun k => by rw [(sb_own c k).2]; rfl)⟩

/-! ## The run -/

/-- The body after the barrier. -/
theorem after_run (c : Dev nD) (Q : PUnit → sProp 𝕄) :
    iprop(ctx X K ∗ (bigSep Finset.univ fun p : Fin 4 × Fin 4 => pts c (ob c p.1 p.2) fullShare (outAt X c))
        ∗ (bigSep Finset.univ fun p => sendRest (F := F) c p)
        ∗ (bigSep Finset.univ fun p => waitRes (F := F) c (1, p)) ∗ (bigSep Finset.univ fun p => atPos ER (kcell (c, some (0, p))) 0 ∅ 0)
        ∗ owesAny c (tallyL (sends1.map (payPiece c) ++ sends2.map (payPiece c))))
      ⊢ iprop((((bigSep Finset.univ fun s : Slot => semVal (kcell (c, some s)) 0) ∗ outPts X c ∗ owesAny c (tallyL [])) -∗ Q ⟨⟩)
          -∗ runs c (afterBar c) Q) := by
  rw [lanes_eq fun p : Fin 4 × Fin 4 => (pts c (ob c p.1 p.2) fullShare (outAt X c) : sProp 𝕄), lanes_eq fun p => (sendRest (F := F) c p : sProp 𝕄),
    lanes_eq fun p => (waitRes (F := F) c (1, p) : sProp 𝕄)]
  iintro ⟨#Hc, ⟨Ho0, Ho1, Ho2, Ho3⟩, ⟨Hs0, Hs1, Hs2, Hs3⟩, ⟨Hw0, Hw1, Hw2, Hw3⟩, Hat, HO⟩ Hk
  unfold afterBar
  -- the sends of lanes 0 and 1
  iapply (sends_run X K c sends1 (sends2.map (payPiece c)) _ Q) $$ [Ho0 Ho1 Hs0 Hs1 HO]
  · isplitr; · iexact Hc
    isplitl [Ho0 Ho1 Hs0 Hs1]
    · rw [sends1_eq]
      unfold sendPre
      rw [← lane_sep, ← lane_sep, ← (own_lane X c).1, ← (own_lane X c).2]
      isplitl [Ho0 Hs0]
      · isplitl [Ho0]; · iexact Ho0
        iexact Hs0
      · isplitl [Ho1]; · iexact Ho1
        iexact Hs1
    iexact HO
  rw [sends1_eq]
  iintro ⟨⟨Hc0, Hc1⟩, HO⟩
  -- the trips
  iapply (trips_run X K c four _ Q) $$ [Hw0 Hs2 Hs3 HO]
  · isplitr; · iexact Hc
    isplitl [Hw0 Hs2 Hs3]
    · rw [four_eq]
      unfold tripPre
      rw [← lane_sep, ← lane_sep]
      isplitl [Hw0]; · iexact Hw0
      isplitl [Hs2]; · iexact Hs2
      iexact Hs3
    iexact HO
  rw [four_eq]
  unfold tripPost
  rw [← lane_sep, ← lane_sep]
  iintro ⟨⟨Hz0, Hc2, Hc3⟩, HO⟩
  -- the landings of lanes 1, 2, 3
  iapply (waits_run X K c lands [] (fun _ _ _ h => nomatch h) _ Q) $$ [Hw1 Hw2 Hw3 HO]
  · isplitr; · iexact Hc
    isplitl [Hw1 Hw2 Hw3]
    · rw [lands_eq]
      isplitl [Hw1]; · iexact Hw1
      isplitl [Hw2]; · iexact Hw2
      iexact Hw3
    iexact HO
  rw [lands_eq]
  unfold waitDone
  rw [← lane_sep, ← lane_sep, ← lane_sep]
  iintro ⟨⟨⟨Hz1, Hl1⟩, ⟨Hz2, Hl2⟩, ⟨Hz3, Hl3⟩⟩, HO⟩
  -- the sends
  iapply (waits_run X K c sents [] (fun _ _ _ h => nomatch h) _ Q) $$ [Hc0 Hc1 Hc2 Hc3 Hat HO]
  · isplitr; · iexact Hc
    isplitl [Hc0 Hc1 Hc2 Hc3 Hat]
    · rw [sents_eq]
      rw [show (fun p => waitRes (F := F) c (0, p)) = fun p => iprop(sentCred (F := F) c p ∗ atPos ER (kcell (c, some (0, p))) 0 ∅ 0) from rfl, ← both_eq]
      isplitl [Hc0 Hc1 Hc2 Hc3]
      · rw [lanes_eq]
        isplitl [Hc0]; · iexact Hc0
        isplitl [Hc1]; · iexact Hc1
        isplitl [Hc2]; · iexact Hc2
        iexact Hc3
      iexact Hat
    iexact HO
  rw [sents_eq]
  iintro ⟨Hd, HO⟩
  unfold waitDone
  ihave Hd' := (Entails.of_eq (both_eq (fun p => (semVal (kcell (c, some (0, p))) 0 : sProp 𝕄)) fun p => slotPay X c (0, p)).symm) $$ Hd
  icases Hd' with ⟨Hz, Hp⟩
  ihave Hp' := (Entails.of_eq (lanes_eq fun p => slotPay X c (0, p))) $$ Hp
  icases Hp' with ⟨Hp0, Hp1, Hp2, Hp3⟩
  unfold runs
  rw [wp_ret]; imodintro
  iapply Hk
  isplitl [Hz Hz0 Hz1 Hz2 Hz3]
  · rw [slots_eq, lanes_eq fun p => (semVal (kcell (c, some (1, p))) 0 : sProp 𝕄)]
    isplitl [Hz]; · iexact Hz
    isplitl [Hz0]; · iexact Hz0
    isplitl [Hz1]; · iexact Hz1
    isplitl [Hz2]; · iexact Hz2
    iexact Hz3
  isplitr [HO]
  · rw [outPts_eq, lanes_eq, lanes_eq]
    isplitl [Hp0 Hp1 Ho2 Ho3]
    · isplitl [Hp0]
      · rw [(own_lane X c).1]; iexact Hp0
      isplitl [Hp1]
      · rw [(own_lane X c).2]; iexact Hp1
      isplitl [Ho2]; · iexact Ho2
      iexact Ho3
    isplitl [Hp2 Hp3]
    · rw [show (fun k => slotPay X c (1, 0, k)) = fun k => iprop(pts c (sb c 2 k) (share 2) (outAt X c) ∗ pts c (sb c 3 k) (share 3) (outAt X c)) from
        funext fun k => landed_split X c k, ← lane_sep]
      isplitl [Hp2]; · iexact Hp2
      iexact Hp3
    isplitl [Hl1]; · iexact Hl1
    isplitl [Hl2]; · iexact Hl2
    iexact Hl3
  iexact HO

end Cert.Proof

end
-- ==== Proof.Body.lean ====
/-
  A device runs its whole body: it hands its unfilled rows to the neighbours that write them, stores its own half, takes the
  neighbours' rows at the barrier, and goes on to the sends and the waits.  The result buffer ends whole at the gathered blocks.
-/
module

public import proofs.«01_k».proof.Proof.After

@[expose] public section

noncomputable section

namespace Cert.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SiteBlocks (L lv)
open Idealize.ShloMosaic.TalkSites (Pay tallyL)

variable {F : FTy → Type} [FloatOps F]

local notation "𝕄" => MT nD τ sig ℕ (Elt F) ℕ UU ℕ

variable (X : Dev nD → S1024x512.Idx → Elt F .bf16) (K : Dev nD × Option Slot → ℕ)

/-! ## Regrouping -/

/-! ## What a device starts from -/

/-- Its positions, at round 0 of its cells. -/
def posns (c : Dev nD) : sProp (MT nD τ sig ℕ (Elt F) ℕ UU ℕ) :=
  iprop(atPos ER (kcell (c, none)) 0 ∅ 0 ∗ bigSep Finset.univ fun s : Slot => atPos ER (kcell (c, some s)) 0 ∅ 0)

/-- The duties it discharges: three signals, sixteen sends, sixteen landings. -/
def duties (c : Dev nD) : sProp (MT nD τ sig ℕ (Elt F) ℕ UU ℕ) :=
  iprop((bigSep Finset.univ fun d : Fin 3 => dutyTok ER (kcell (nb (sigLane d) c, none)) 0 d)
    ∗ (bigSep Finset.univ fun p : Fin 4 × Fin 4 => dutyTok ER (kcell (c, some (0, p))) 0 0)
    ∗ bigSep Finset.univ fun p : Fin 4 × Fin 4 => dutyTok ER (kcell (nb p.1 c, some (1, p))) 0 0)

/-- The credits its waits spend, those of its own sends apart. -/
def credits (c : Dev nD) : sProp (MT nD τ sig ℕ (Elt F) ℕ UU ℕ) :=
  iprop(cred (tallyAt (kcell (c, none)) 1 3) ∗ bigSep Finset.univ fun p : Fin 4 × Fin 4 => cred (tallyAt (kcell (c, some (1, p))) (lvl (1, p)) N))

/-- Its argument's buffer. -/
def argPts (c : Dev nD) : sProp 𝕄 := ((c : Thread nD τ).loc cc0_stg0_0) ↦{fullShare} X c

/-- Its own half of the result's buffer. -/
def halfPts (c : Dev nD) (f : S2048x512.Idx → Elt F .bf16) : sProp 𝕄 := ((c : Thread nD τ).loc cc0_stg1_0) ↦[ownSet c]{fullShare} f

/-! ## The result's buffer in parts -/

omit [FloatOps F] in
/-- The own half is its blocks. -/
theorem halfPts_eq (c : Dev nD) (f : S2048x512.Idx → Elt F .bf16) :
    (halfPts c f : sProp 𝕄) = bigSep Finset.univ fun p : Fin 4 × Fin 4 => pts c (ob c p.1 p.2) fullShare f :=
  Ring.pointsTo_sub_blocks (ℓ := (c : Thread nD τ).loc cc0_stg1_0) (fun p : Fin 4 × Fin 4 => rows (ob c p.1 p.2)) (ob_disjoint c) (ownSet c) (ownSet_eq c) f

omit [FloatOps F] in
/-- Rows with known contents are rows with some. -/
theorem any_of (c : Dev nD) (b : Fin 32) (f : S2048x512.Idx → Elt F .bf16) : (pts c b fullShare f : sProp 𝕄) ⊢ anyPts c b := by
  unfold anyPts
  iintro H
  iexists f
  iexact H

omit [FloatOps F] in
/-- The whole buffer is the own half and the blocks to be filled. -/
theorem split_out (c : Dev nD) (f : S2048x512.Idx → Elt F .bf16) :
    (((c : Thread nD τ).loc cc0_stg1_0) ↦{fullShare} f : sProp 𝕄)
      ⊢ iprop(halfPts c f ∗ bigSep Finset.univ fun p : Fin 4 × Fin 4 => anyPts (F := F) c (lb c p.1 p.2)) := by
  refine (pointsTo_split_subset (Finset.subset_univ (ownSet c))).1.trans (sep_mono_right ?_)
  refine (Entails.of_eq (Ring.pointsTo_sub_blocks (ℓ := (c : Thread nD τ).loc cc0_stg1_0) (fun p : Fin 4 × Fin 4 => rows (lb c p.1 p.2)) (lb_disjoint c) _
    (restSet_eq c) f)).trans (bigSep_mono fun p _ => any_of c (lb c p.1 p.2) f)

/-- The signals take the blocks to be filled and their duties. -/
theorem sigs_pre (c : Dev nD) :
    iprop((bigSep Finset.univ fun p : Fin 4 × Fin 4 => anyPts (F := F) c (lb c p.1 p.2))
        ∗ bigSep Finset.univ fun d : Fin 3 => dutyTok ER (kcell (nb (sigLane d) c, none)) 0 d)
      = (bigSepL [0, 1, 2] (sigPre c) : sProp 𝕄) := by
  rw [fin3_eq, bigSep_univ_prod, ← sigLanes_eq, both_eq]
  rfl

/-- What the barrier wait hands over: the rows every send writes. -/
theorem bar_rows (c : Dev nD) :
    (bigSep Finset.univ fun d : Fin 3 => barPay (F := F) c d) = bigSep Finset.univ fun p : Fin 4 × Fin 4 => anyPts (F := F) (nb p.1 c) (sb c p.1 p.2) := by
  unfold barPay
  rw [sigLanes_eq, bigSep_univ_prod]

/-- Owing sends only, a device may wait at the barrier. -/
theorem sends_above (c : Dev nD) : ∀ x ∈ sends1.map (payPiece c) ++ sends2.map (payPiece c), x.1.1.2 = .tc ∧ 1 < x.2.1 ∧ x.2.1 < 4 := by
  intro x hx
  have hq : ∀ p : Fin 4 × Fin 4, 1 < lvl (1, p) := by decide
  rw [← List.map_append] at hx
  obtain ⟨p, -, rfl⟩ := List.mem_map.mp hx
  exact ⟨rfl, hq p, lvl_lt _⟩

/-! ## The own half -/

/-- The zero offset. -/
theorem origin : (![0, 0] : Fin 2 → Nat) = fun _ => 0 := funext fun a => by fin_cases a <;> rfl

/-- The argument loaded whole. -/
theorem load_x (f : S1024x512.Idx → Elt F .bf16) : xM.view.readAt (Elt F) xR.toLoadRect f = f :=
  Memref.readAt_unit_zero (Elt F) cc0_stg0_0 origin _ f

/-- The load of the argument, the load of the own half, and the store: the own half holds the result's part. -/
theorem half_step (c : Dev nD) (f : S2048x512.Idx → Elt F .bf16) (rest : Prog (TpuEff nD τ sig (Elt F) Λ₀ .tc) PUnit) (Q : PUnit → sProp 𝕄) :
    iprop(argPts X c ∗ halfPts c f)
      ⊢ iprop(((argPts X c ∗ halfPts c (outAt X c)) -∗ runs c rest Q)
          -∗ runs c (.op (.load xM xR.toLoadRect (View.loadsAt_vmem h_S1024x512)) fun v =>
            .op (.load oM (ownR c).toLoadRect (View.loadsAt_vmem h_S1024x512)) fun _ =>
            .op (.store oM (ownR c) (k0_pay1 v) Finset.univ
              (View.stores_vmem h_S1024x512 ((Memref.isWhole_whole cc0_stg1_0).storeExact_slice rfl _ (k0_off1_packedbf16 c)) (fun _ => rfl)) (.inl rfl)) fun _ =>
            rest) Q) := by
  unfold argPts halfPts
  iintro ⟨Hx, Ho⟩ Hk
  iapply (wp_load 𝒱₀ (c : Thread nD τ) none Set.univ (m := xM) (Finset.subset_univ _)) $$ Hx
  iintro Hx
  rw [load_x]
  iapply (wp_load_rect 𝒱₀ (c : Thread nD τ) none Set.univ (m := oM) (r := ownR c) (S := ownSet c) (by rw [ownR_set])) $$ Ho
  iintro Ho
  iapply (wp_store 𝒱₀ (c : Thread nD τ) none Set.univ (m := oM) (r := ownR c) (Mk := Finset.univ) (S := ownSet c)
    (by rw [View.setOn_univ, ownR_set])) $$ Ho
  iintro Ho
  iapply Hk
  isplitl [Hx]; · iexact Hx
  iapply (Entails.of_eq (pointsTo_congr (store_eq X c f)))
  iexact Ho

/-! ## The run -/

/-- The whole body. -/
theorem body_run (c : Dev nD) (f : S2048x512.Idx → Elt F .bf16) (Q : PUnit → sProp 𝕄) :
    iprop(ctx X K ∗ posns c ∗ duties c ∗ credits c ∗ owesAny c (O₀ c) ∗ argPts X c ∗ (((c : Thread nD τ).loc cc0_stg1_0) ↦{fullShare} f))
      ⊢ iprop(((semVal (kcell (c, none)) 0 ∗ (bigSep Finset.univ fun s : Slot => semVal (kcell (c, some s)) 0)
            ∗ argPts X c ∗ outPts X c ∗ owesAny c 0) -∗ Q ⟨⟩)
          -∗ runs c (bodyT c) Q) := by
  unfold posns duties credits bodyT O₀ dueL
  rw [slots_eq]
  iintro ⟨#Hc, ⟨HaB, HaS, HaL⟩, ⟨HtB, HtS, HtL⟩, ⟨HcB, HcL⟩, HO, Hx, Hout⟩ Hk
  ihave Hs := (split_out c f) $$ Hout
  icases Hs with ⟨Hh, Hrows⟩
  -- the signals
  iapply (sigs_run X K c [0, 1, 2] _ _ Q) $$ [HtB Hrows HO]
  · isplitr; · iexact Hc
    isplitl [HtB Hrows]
    · rw [← sigs_pre]
      isplitl [Hrows]; · iexact Hrows
      iexact HtB
    iexact HO
  iintro HO
  -- the own half
  iapply (half_step X c f _ Q) $$ [Hx Hh]
  · isplitl [Hx]; · iexact Hx
    iexact Hh
  iintro ⟨Hx, Hh⟩
  -- the barrier
  iapply (bar_step X K c _ (sends_above c) _ Q) $$ [HcB HaB HO]
  · isplitr; · iexact Hc
    isplitl [HcB HaB]
    · isplitl [HcB]; · iexact HcB
      iexact HaB
    iexact HO
  iintro ⟨HzB, Hp, HO⟩
  -- the sends and the waits
  iapply (after_run X K c Q) $$ [Hh Hp HtS HtL HcL HaL HaS HO]
  · isplitr; · iexact Hc
    isplitl [Hh]
    · rw [← halfPts_eq]; iexact Hh
    isplitl [Hp HtS HtL]
    · unfold sendRest
      rw [← both_eq, ← both_eq, ← bar_rows]
      isplitl [Hp]; · iexact Hp
      isplitl [HtS]; · iexact HtS
      iexact HtL
    isplitl [HcL HaL]
    · unfold waitRes
      rw [← both_eq]
      isplitl [HcL]; · iexact HcL
      iexact HaL
    isplitl [HaS]; · iexact HaS
    iexact HO
  iintro ⟨Hz, Hout, HO⟩
  iapply Hk
  isplitl [HzB]; · iexact HzB
  isplitl [Hz]; · iexact Hz
  isplitl [Hx]; · iexact Hx
  isplitl [Hout]; · iexact Hout
  iexact HO

end Cert.Proof

end
-- ==== Proof.Grid.lean ====
/-
  The kernel at its one grid point: what the staging buffers hold before and after, what a device owes, and the body's
  obligation, which is the body's run.
-/
module

public import proofs.«01_k».proof.Proof.Body
public import proofs.«01_k».proof.Proof.Gen.KernelIdeal.Points

@[expose] public section

noncomputable section

namespace Cert.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SiteBlocks (L lv)
open Idealize.ShloMosaic.TalkSites (Pay tallyL)

variable {F : FTy → Type} [FloatOps F]

local notation "𝕄" => MT nD τ sig ℕ (Elt F) ℕ UU ℕ

open Idealize.ShloMosaic.Pipeline (Dat BodyObligation)

variable (m : (ℓ : Loc nD τ sig) → Buf (Elt F) ℓ)

/-! ## The data -/

/-- A device's argument, as its staging buffer receives it. -/
def xstg (c : Dev nD) : S1024x512.Idx → Elt F .bf16 :=
  (win0_0.blk (0 : Fin 1)).view.read (Elt F) (m ((c : Thread nD τ).loc main_arg0))

/-- What a device starts its body with, besides its buffers and its dues. -/
def start (c : Dev nD) : sProp 𝕄 := iprop((∃ K, ctx (xstg m) K) ∗ posns c ∗ duties c ∗ credits c)

/-- What it ends with: every cell closed at zero. -/
def done (c : Dev nD) : sProp (MT nD τ sig ℕ (Elt F) ℕ UU ℕ) :=
  iprop(semVal (kcell (c, none)) 0 ∗ bigSep Finset.univ fun s : Slot => semVal (kcell (c, some s)) 0)

/-- The data of the kernel's launch. -/
def dats (_ : Fin 1) (c : Dev nD) : Dat τ (Elt F) ℕ ℕ UU ℕ cfg0 c where
  A w := m ((cfg0.win w).arr.view.loc (c : Thread nD τ))
  after w _ := match w with
    | ⟨0, _⟩ => xstg m c
    | ⟨1, _⟩ => outAt (xstg m) c
  Φ t := match t with
    | ⟨0, _⟩ => start m c
    | ⟨_ + 1, _⟩ => done c
  q _ := fullShare
  owed t := match t with
    | ⟨0, _⟩ => O₀ c
    | ⟨_ + 1, _⟩ => 0

/-! ## The obligation -/

/-- A staging buffer held whole. -/
abbrev stg (c : Dev nD) (b : Ref sig .tc) (Y : b.ty.Contents (Elt F)) : sProp 𝕄 :=
  iprop(∃ f : Buf (Elt F) (((c : Dev nD) : Thread nD τ).loc b), ⌜f = Y⌝ ∗ (((c : Thread nD τ).loc b) ↦{fullShare} f))

omit [FloatOps F] in
/-- A whole buffer owned, as its points-to. -/
theorem owns_stg (c : Dev nD) (b : Ref sig .tc) (Y : b.ty.Contents (Elt F)) :
    (owns (c : Thread nD τ) (Memref.whole b) fullShare Y : sProp 𝕄) = stg c b Y := by
  unfold owns
  simp only [Memref.view_whole, View.read_whole, View.set_whole]

/-- What the body finds. -/
def before (c : Dev nD) : sProp 𝕄 :=
  iprop(start m c ∗ (dats m 0 c).owesAt 0 t0_0.castSucc
    ∗ (∃ d, stg c cc0_stg0_0 ((dats m 0 c).before (0 : Fin 2) t0_0 d))
    ∗ (∃ d, stg c cc0_stg1_0 ((dats m 0 c).before (1 : Fin 2) t0_0 d)))

/-- What it leaves. -/
def after (c : Dev nD) : sProp 𝕄 :=
  iprop(done c ∗ (dats m 0 c).owesAt 0 t0_0.succ ∗ stg c cc0_stg0_0 (xstg m c) ∗ stg c cc0_stg1_0 (outAt (xstg m) c))

/-- The body takes the one to the other. -/
theorem point (c : Dev nD) :
    before m c ⊢ runs c (cc0_body xM (Memref.isWhole_whole _) oM (Memref.isWhole_whole _) cc0_scratch0 cc0_scratch1 cc0_scratch2 cc0_scratch3 cc0_scratch4 cc0_scratch5)
      (fun _ => after m c) := by
  rw [body_eq]
  unfold runs
  rw [wp_deviceId]
  unfold before start Dat.owesAt Pipeline.owesWithin
  iintro ⟨⟨⟨%K, #Hc⟩, Hpos, Hdut, Hcr⟩, ⟨%W, %hW, HO⟩, ⟨%d0, %g0, %hg0, Hx⟩, ⟨%d1, %g1, %hg1, Hout⟩⟩
  have hx : g0 = xstg m c := by rw [hg0]; unfold Dat.before; rw [if_pos (fetch0_0 t0_0)]; rfl
  subst hx
  iapply (body_run (xstg m) K c g1 fun _ => after m c) $$ [Hpos Hdut Hcr HO Hx Hout]
  · isplitr; · iexact Hc
    isplitl [Hpos]; · iexact Hpos
    isplitl [Hdut]; · iexact Hdut
    isplitl [Hcr]; · iexact Hcr
    isplitl [HO]
    · unfold owesAny
      iexists W
      iexact HO
    isplitl [Hx]; · unfold argPts; iexact Hx
    iexact Hout
  iintro ⟨HzB, Hz, Hx, Hout, HO⟩
  unfold after done Dat.owesAt Pipeline.owesWithin owesAny argPts outPts
  icases HO with ⟨%W', HO⟩
  isplitl [HzB Hz]
  · isplitl [HzB]; · iexact HzB
    iexact Hz
  isplitl [HO]
  · iexists W'
    isplitr; · ipureintro; exact fun _ _ => Or.inl trivial
    iexact HO
  isplitl [Hx]
  · iexists _; isplitr; · (ipureintro; rfl)
    iexact Hx
  iexists _; isplitr; · (ipureintro; rfl)
  iexact Hout

set_option maxRecDepth 4000 in
/-- The launch's obligation on a device's body. -/
theorem body_obligation (c : Dev nD) : BodyObligation (dats (F := F) m 0 c) (defs₀ (F := F)) 𝒱₀ 0 Set.univ := fun t => by
  rw [fin_N0 t]
  rw [bigSep_W0, bigSep_W0]
  simp only [owns_stg]
  exact point m c

end Cert.Proof

end
-- ==== Proof.Deal.lean ====
/-
  The launch deals each device what its body starts from: the duties of a cell go to the devices that discharge them, and
  what all devices owe adds up to the credits their waits spend.
-/
module

public import proofs.«01_k».proof.Proof.Body

@[expose] public section

noncomputable section

namespace Cert.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SiteBlocks (L lv)
open Idealize.ShloMosaic.TalkSites (Pay tallyL)

variable {F : FTy → Type} [FloatOps F]

local notation "𝕄" => MT nD τ sig ℕ (Elt F) ℕ UU ℕ

/-! ## Credits -/

/-- A device's credits, payment by payment: what arrives at its cells. -/
def dueIn (c : Dev nD) : List (Pay nD τ sig) :=
  ([0, 1, 2] : List (Fin 3)).map (fun _ => (kcell (c, none), 1, 1))
    ++ (sends1.map (fun p => (kcell (c, some (1, p)), lvl (1, p), N)) ++ sends2.map (fun p => (kcell (c, some (1, p)), lvl (1, p), N)))

/-- Payments made across the lanes, summed over the devices, are the payments received. -/
theorem sum_across {I : Type} (a : I → Fin 4) (pay : Dev nD → I → Pay nD τ sig) (l : List I) :
    (∑ d : Dev nD, tallyL (l.map fun i => pay (nb (a i) d) i)) = ∑ d : Dev nD, tallyL (l.map (pay d)) := by
  induction l with
  | nil => rfl
  | cons i l ih =>
    show (∑ d : Dev nD, ((pay (nb (a i) d) i).tally + tallyL (l.map fun i => pay (nb (a i) d) i))) = ∑ d : Dev nD, ((pay d i).tally + tallyL (l.map (pay d)))
    rw [Finset.sum_add_distrib, Finset.sum_add_distrib, ih]
    exact congrArg (· + _) (Equiv.sum_comp (across (a i)) fun d => (pay d i).tally)

/-- All that is owed is all that arrives. -/
theorem sum_due : (∑ d : Dev nD, O₀ d) = ∑ d : Dev nD, tallyL (dueIn d) := by
  unfold O₀ dueL dueIn
  simp only [TalkSites.tallyL_append]
  rw [Finset.sum_add_distrib, Finset.sum_add_distrib, Finset.sum_add_distrib, Finset.sum_add_distrib]
  exact congrArg₂ _ (sum_across sigLane (fun d _ => (kcell (d, none), 1, 1)) [0, 1, 2])
    (congrArg₂ _ (sum_across Prod.fst (fun d p => (kcell (d, some (1, p)), lvl (1, p), N)) sends1)
      (sum_across Prod.fst (fun d p => (kcell (d, some (1, p)), lvl (1, p), N)) sends2))

/-- What arrives at a device arrives at its cells. -/
theorem dueIn_at (c : Dev nD) : ∀ x ∈ dueIn c, x.1.1 = (c : Thread nD τ) := by
  intro x hx
  unfold dueIn at hx
  rcases List.mem_append.mp hx with h | h
  · obtain ⟨_, -, rfl⟩ := List.mem_map.mp h; rfl
  · rcases List.mem_append.mp h with h | h <;> (obtain ⟨_, -, rfl⟩ := List.mem_map.mp h; rfl)

omit [FloatOps F] in
/-- The trips' sends, lane by lane. -/
theorem sends2_eq (Φ : Fin 4 × Fin 4 → sProp 𝕄) : bigSepL sends2 Φ = iprop((lane fun k => Φ (2, k)) ∗ lane fun k => Φ (3, k)) := by
  unfold sends2
  rw [pairs_eq]

omit [FloatOps F] in
/-- Three units at the barrier, one by one. -/
theorem cred_three (c : Dev nD) :
    bigSepL ([0, 1, 2] : List (Fin 3)) (fun _ => cred (tallyAt (kcell (c, none)) 1 1)) ⊢ (cred (tallyAt (kcell (c, none)) 1 3) : sProp 𝕄) := by
  have h : (tallyAt (kcell (c, none)) 1 3 : CellTallies nD τ sig ℕ) = tallyAt (kcell (c, none)) 1 1 + (tallyAt (kcell (c, none)) 1 1 + tallyAt (kcell (c, none)) 1 1) := by
    rw [tallyAt_add, tallyAt_add]
  rw [h, bigSepL_cons', bigSepL_cons', bigSepL_singleton]
  exact (sep_mono_right (cred_add _ _).2).trans (cred_add _ _).2

omit [FloatOps F] in
/-- The credits of what arrives are those a device starts with. -/
theorem credits_intro (c : Dev nD) : (cred (tallyL (dueIn c)) : sProp 𝕄) ⊢ credits c := by
  rw [TalkSites.cred_tallyL]
  unfold dueIn credits
  rw [bigSepL_append, bigSepL_append, bigSepL_map, bigSepL_map, bigSepL_map, sends1_eq, sends2_eq, lanes_eq]
  iintro ⟨Hb, ⟨H0, H1⟩, H2, H3⟩
  isplitl [Hb]; · iapply (cred_three c); iexact Hb
  isplitl [H0]; · iexact H0
  isplitl [H1]; · iexact H1
  isplitl [H2]; · iexact H2
  iexact H3

omit [FloatOps F] in
/-- The launch's credit is a device's credits. -/
theorem launch_credits (c : Dev nD) : (Pipeline.launchCred O₀ c : sProp 𝕄) ⊢ credits c := by
  rw [Pipeline.launchCred_of_sum O₀ (fun d => tallyL (dueIn d)) sum_due (fun d g hg => by
    obtain ⟨i, hi⟩ := DFunLike.ne_iff.mp hg
    obtain ⟨x, hx, rfl, -⟩ := TalkSites.tallyL_pos (Nat.pos_of_ne_zero hi)
    exact dueIn_at d x hx) c]
  exact credits_intro c

/-! ## Duties -/

omit [FloatOps F] in
/-- A family over a device's cells: the barrier's, then the pieces'. -/
theorem cells_eq (Φ : Option Slot → sProp 𝕄) : bigSep Finset.univ Φ = iprop(Φ none ∗ bigSep Finset.univ fun s => Φ (some s)) := by
  have h : (Finset.univ : Finset (Option Slot)).erase none = Finset.univ.map Function.Embedding.some := by
    ext s; cases s <;> simp
  rw [bigSep_univ_at Φ none, h, bigSep_map]
  rfl

/-- The duties of a device's own cells. -/
def ownDuties (c : Dev nD) : sProp (MT nD τ sig ℕ (Elt F) ℕ UU ℕ) :=
  iprop((bigSep Finset.univ fun d : Fin 3 => dutyTok ER (kcell (c, none)) 0 d)
    ∗ bigSep Finset.univ fun s : Slot => dutyTok ER (kcell (c, some s)) 0 0)

omit [FloatOps F] in
/-- Dealt one per cell and name, these are among them. -/
theorem ownDuties_intro (c : Dev nD) :
    (bigSep Finset.univ fun s : Option Slot => bigSep Finset.univ fun d : Fin 3 => (dutyTok ER (kcell (c, s)) 0 d : sProp 𝕄)) ⊢ ownDuties c := by
  rw [cells_eq]
  unfold ownDuties
  exact sep_mono_right (bigSep_mono fun s _ => bigSep_elim (Φ := fun d : Fin 3 => (dutyTok ER (kcell (c, some s)) 0 d : sProp 𝕄)) (Finset.mem_univ 0))

omit [FloatOps F] in
/-- A family over devices and lanes, dealt across each lane. -/
theorem across_eq {I : Type} [Fintype I] (a : I → Fin 4) (Φ : Dev nD → I → sProp 𝕄) :
    (bigSep Finset.univ fun c : Dev nD => bigSep Finset.univ fun i => Φ c i)
      = bigSep Finset.univ fun c : Dev nD => bigSep Finset.univ fun i => Φ (nb (a i) c) i := by
  rw [bigSep_univ_comm]
  rw [bigSep_univ_comm (fun c i => Φ (nb (a i) c) i)]
  exact bigSep_congr fun i _ => bigSep_univ_equiv (across (a i)) fun c => Φ c i

omit [FloatOps F] in
/-- The duties go to those who discharge them. -/
theorem duties_deal : (bigSep Finset.univ fun c : Dev nD => ownDuties (F := F) c) = bigSep Finset.univ fun c : Dev nD => duties (F := F) c := by
  unfold ownDuties duties
  simp only [slots_eq]
  rw [← both_eq, ← both_eq, ← both_eq, ← both_eq,
    across_eq sigLane fun (c : Dev nD) (d : Fin 3) => dutyTok ER (kcell (c, none)) 0 d,
    across_eq Prod.fst fun (c : Dev nD) (p : Fin 4 × Fin 4) => dutyTok ER (kcell (c, some (1, p))) 0 0]

end Cert.Proof

end
-- ==== Proof.Run.lean ====
/-
  The launch: every device gets its cells' invariants, its positions, its duties and its credits, and the run of the whole
  kernel follows from its body's run.
-/
module

public import proofs.«01_k».proof.Proof.Grid
public import proofs.«01_k».proof.Proof.Deal
public import Idealize.ShloMosaic.Lib.Pipeline.Kit
public import Idealize.ShloMosaic.Lib.Pipeline.CollectiveSegs

@[expose] public section

noncomputable section

namespace Cert.Proof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SiteBlocks (L lv)
open Idealize.ShloMosaic.TalkSites (Pay tallyL)

variable {F : FTy → Type} [FloatOps F]

local notation "𝕄" => MT nD τ sig ℕ (Elt F) ℕ UU ℕ

open Idealize.ShloMosaic.Pipeline (Dat)

/-! ## What is minted -/

/-- Every device's cells. -/
def allCells : Finset (GSem nD τ sig) := Finset.univ.map ⟨kcell, kcell_inj⟩

/-- A duty's record: the cell, its round, the duty's name. -/
def dutyOf (x : (Dev nD × Option Slot) × Fin 3) : GSem nD τ sig × ℕ × Fin 3 := (kcell x.1, 0, x.2)

/-- Different cells or names give different duties. -/
theorem dutyOf_inj : Function.Injective dutyOf := fun x y h =>
  Prod.ext (kcell_inj (congrArg Prod.fst h)) (congrArg (fun t : GSem nD τ sig × ℕ × Fin 3 => t.2.2) h)

/-- One duty for each cell and name. -/
def allDuties : Finset (GSem nD τ sig × ℕ × Fin 3) := Finset.univ.map ⟨dutyOf, dutyOf_inj⟩

/-- The launch's element: the staging's rounds and the kernel's. -/
def u₀ : UU := (initOf (Pipeline.cells cfgs cellOf_inj) (Pipeline.launchToks cfgs cellOf_inj), initOf allCells allDuties)

/-- The pieces' semaphores are the kernel's own, different from each other and from the staging's. -/
theorem ownSemFacts : Pipeline.OwnSemFacts cfg0.spec (fun s : Slot => osem (some s)) := by decide +kernel

variable (X : Dev nD → S1024x512.Idx → Elt F .bf16)

/-- What a device gets of it. -/
def G (c : Dev nD) : sProp 𝕄 :=
  iprop((bigSep Finset.univ fun s : Option Slot => roundState ER (Rd X) (kcell (c, s)) 0)
    ∗ (bigSep Finset.univ fun s : Option Slot => atPos ER (kcell (c, s)) 0 ∅ 0)
    ∗ (bigSep Finset.univ fun s : Option Slot => reached ER (kcell (c, s)) 0)
    ∗ ownDuties c)

/-- The records all devices share: every cell's invariant, and that its round has begun. -/
def records (K : Dev nD × Option Slot → ℕ) : sProp 𝕄 :=
  iprop((bigSep Finset.univ fun x => cellInv ER (Rd X) (K x) (kcell x)) ∗ bigSep Finset.univ fun x : Dev nD × Option Slot => reached ER (kcell x) 0)

instance records_persistent (K : Dev nD × Option Slot → ℕ) : BI.Persistent (records X K) := by unfold records; infer_instance

/-- What a device has once the invariants stand. -/
def G' (c : Dev nD) : sProp 𝕄 := iprop((∃ K, records X K) ∗ posns c ∗ duties c)

omit [FloatOps F] in
/-- A family over all cells, device by device. -/
theorem allCells_eq (Φ : GSem nD τ sig → sProp 𝕄) :
    bigSep allCells Φ = bigSep Finset.univ fun c : Dev nD => bigSep Finset.univ fun s : Option Slot => Φ (kcell (c, s)) := by
  unfold allCells
  rw [bigSep_map, bigSep_univ_prod]
  rfl

omit [FloatOps F] in
/-- The duties minted are among them every device's own. -/
theorem allDuties_own :
    bigSep allDuties (fun x => (dutyTok ER x.1 x.2.1 x.2.2 : sProp 𝕄)) ⊢ bigSep Finset.univ fun c : Dev nD => ownDuties c := by
  unfold allDuties
  rw [bigSep_map, bigSep_univ_prod, bigSep_univ_prod]
  exact bigSep_mono fun c _ => ownDuties_intro c

/-- The kernel's rounds, dealt to the devices. -/
theorem fund_all : BI.own (ER (initOf allCells allDuties)) ⊢ (|==> bigSep Finset.univ (G X) : sProp 𝕄) := by
  iintro H
  imod (Rounds.fund ER (Rd X) allCells allDuties) $$ H with ⟨Hst, Hr, Hat, Htok⟩
  imodintro
  ihave Hst := (Entails.of_eq (allCells_eq fun g => roundState ER (Rd X) g 0)) $$ Hst
  ihave Hat := (Entails.of_eq (allCells_eq fun g => atPos ER g 0 ∅ 0)) $$ Hat
  ihave Hr := (Entails.of_eq (allCells_eq fun g => reached ER g 0)) $$ Hr
  ihave Htok := (allDuties_own (F := F)) $$ Htok
  unfold G
  rw [← both_eq, ← both_eq, ← both_eq]
  isplitl [Hst]; · iexact Hst
  isplitl [Hat]; · iexact Hat
  isplitl [Hr]; · iexact Hr
  iexact Htok

/-! ## The invariants -/

omit [FloatOps F] in
/-- The barrier semaphore is the one the launch does not scope. -/
theorem barrier_sem (c : Dev nD) : (unscopedSems0 c : sProp 𝕄) = semVal (kcell (c, none)) 0 := by
  unfold unscopedSems0
  rw [bigSep_eq_bigSepL_of_eq [SemLoc.reg barS] (by decide) (by decide)]
  rfl

omit [FloatOps F] in
/-- The pieces' semaphores are the kernel's own. -/
theorem own_sems (c : Dev nD) :
    (Pipeline.ownSems0 (Ix := ℕ) (Name := ℕ) (U := UU) (Lvl := ℕ) (Val := Elt F) (τ := τ) (fun s : Slot => osem (some s)) c : sProp 𝕄)
      = bigSep Finset.univ fun s : Slot => semVal (kcell (c, some s)) 0 := rfl

/-- A cell's invariant is made of its semaphore at zero and its first round. -/
theorem cells_alloc (c : Dev nD) :
    iprop((bigSep Finset.univ fun s : Option Slot => semVal (kcell (c, s)) 0) ∗ bigSep Finset.univ fun s : Option Slot => roundState ER (Rd X) (kcell (c, s)) 0)
      ⊢ (|={Set.univ}=> bigSep Finset.univ fun s : Option Slot => iprop(∃ κ : ℕ, cellInv ER (Rd X) κ (kcell (c, s))) : sProp 𝕄) := by
  rw [both_eq]
  exact (bigSep_mono fun s _ => (Rounds.body_intro ER (Rd X) (kcell (c, s))).trans inv_alloc).trans (bigSep_fupd _ _)

/-- A device makes its cells' invariants. -/
theorem device_alloc (c : Dev nD) :
    iprop(Pipeline.ownSems0 (Ix := ℕ) (Name := ℕ) (U := UU) (Lvl := ℕ) (Val := Elt F) (τ := τ) (fun s : Slot => osem (some s)) c ∗ unscopedSems0 c ∗ G X c)
      ⊢ |={Set.univ}=> iprop((bigSep Finset.univ fun s : Option Slot => iprop(∃ κ : ℕ, cellInv ER (Rd X) κ (kcell (c, s))))
          ∗ posns c ∗ (bigSep Finset.univ fun s : Option Slot => reached ER (kcell (c, s)) 0) ∗ ownDuties c) := by
  rw [own_sems, barrier_sem]
  unfold G posns
  iintro ⟨Hos, Hb, Hst, Hat, Hr, Htok⟩
  imod (cells_alloc X c) $$ [Hos Hb Hst] with Hinv
  · isplitl [Hos Hb]
    · rw [cells_eq]
      isplitl [Hb] <;> iassumption
    iexact Hst
  imodintro
  isplitl [Hinv]; · iexact Hinv
  isplitl [Hat]
  · iapply (Entails.of_eq (cells_eq fun s : Option Slot => atPos ER (kcell (c, s)) 0 ∅ 0))
    iexact Hat
  isplitl [Hr]; · iexact Hr
  iexact Htok

omit [FloatOps F] in
/-- Shared records go to every member of a family. -/
theorem share_records {I : Type} [DecidableEq I] (S : Finset I) (R : sProp 𝕄) [BI.Persistent R] (Φ : I → sProp 𝕄) :
    iprop(R ∗ bigSep S Φ) ⊢ bigSep S fun i => iprop(R ∗ Φ i) :=
  (sep_mono_left (BI.bigSep_of_persistent S R)).trans (by rw [bigSep_sep'])

/-- The records stand, and every device has its positions and the duties it discharges. -/
theorem spread :
    (bigSep Finset.univ fun c : Dev nD => iprop((bigSep Finset.univ fun s : Option Slot => iprop(∃ κ : ℕ, cellInv ER (Rd X) κ (kcell (c, s))))
          ∗ posns c ∗ (bigSep Finset.univ fun s : Option Slot => reached ER (kcell (c, s)) 0) ∗ ownDuties c) : sProp 𝕄)
      ⊢ bigSep Finset.univ (G' X) := by
  rw [← both_eq, ← both_eq, ← both_eq, duties_deal,
    ← bigSep_univ_prod (fun x : Dev nD × Option Slot => iprop(∃ κ : ℕ, cellInv ER (Rd X) κ (kcell x))),
    ← bigSep_univ_prod (fun x : Dev nD × Option Slot => (reached ER (kcell x) 0 : sProp 𝕄))]
  iintro ⟨HI, Hp, #HR, Hd⟩
  ihave HK := (BI.bigSep_exists_pi Finset.univ (fun (x : Dev nD × Option Slot) (κ : ℕ) => (cellInv ER (Rd X) κ (kcell x) : sProp 𝕄))) $$ HI
  icases HK with ⟨%K, #HI⟩
  have hrec : records X K ⊢ (iprop(∃ K, records X K) : sProp 𝕄) := by iintro H; iexists K; iexact H
  unfold G'
  iapply ((share_records Finset.univ (records X K) fun c : Dev nD => iprop(posns (F := F) c ∗ duties c)).trans
    (bigSep_mono fun c _ => sep_mono_left hrec))
  isplitr
  · unfold records
    isplitl; · iexact HI
    iexact HR
  rw [← both_eq]
  isplitl [Hp]; · iexact Hp
  iexact Hd

/-- The step all devices make together. -/
theorem glob :
    (bigSep Finset.univ fun c => iprop(Pipeline.ownSems0 (Ix := ℕ) (Name := ℕ) (U := UU) (Lvl := ℕ) (Val := Elt F) (τ := τ) (fun s : Slot => osem (some s)) c
        ∗ unscopedSems0 c ∗ G X c) : sProp 𝕄)
      ⊢ |={Set.univ}=> bigSep Finset.univ (G' X) :=
  ((bigSep_mono fun c _ => device_alloc X c).trans (bigSep_fupd _ _)).trans (BI.fupd_mono (spread X))

omit [FloatOps F] in
/-- The launch's element is the staging's rounds and the kernel's. -/
theorem own_both (a : UP) (b : UK) : (ownU (a, b) : sProp 𝕄) ⊢ iprop(BI.own (EP a) ∗ BI.own (ER b)) := ownU_pair a b

/-! ## Side conditions -/

variable (m : (ℓ : Loc nD τ sig) → Buf (Elt F) ℓ) (ρ : Dev nD → PrngReg)

/-- What the launch leaves a device is what its body starts with. -/
theorem start_intro (c : Dev nD) :
    iprop(Pipeline.unscopedRestP Pipeline.Prefetch.none cfg0.spec c (fun b => m ((c : Thread nD τ).loc b)) ∗ levAts (L 4) lv
        ∗ Pipeline.launchCred O₀ c ∗ prngReg c (ρ c) ∗ G' (xstg m) c)
      ⊢ |={Set.univ}=> iprop(start m c ∗ emp) := by
  unfold start G' records ctx
  iintro ⟨-, #Hlev, Hcr, -, ⟨%K, #HI, #HR⟩, Hp, Hd⟩
  ihave Hc := (launch_credits (F := F) c) $$ Hcr
  imodintro
  isplitl
  · isplitr
    · iexists K
      isplitr; · iexact Hlev
      isplitr; · iexact HI
      iexact HR
    isplitl [Hp]; · iexact Hp
    isplitl [Hd]; · iexact Hd
    iexact Hc
  · iempintro

/-- The body's first state asks for nothing else. -/
theorem start_in (c : Dev nD) :
    iprop(start m c ∗ Pipeline.prefHeld Pipeline.Prefetch.none c (fun _ => fullShare.right) (fun k => k.elim0) ∗ Pipeline.scopedRest cfg0.spec c)
      ⊢ (dats m 0 c).Φ 0 := by
  show _ ⊢ start m c
  iintro ⟨Hs, -, -⟩
  iexact Hs

/-- Its last state gives every semaphore back at zero. -/
theorem done_out (c : Dev nD) :
    (dats m 0 c).Φ (Fin.last cfg0.N)
      ⊢ iprop(unscopedSems0 c ∗ Pipeline.ownSems0 (fun s : Slot => osem (some s)) c ∗ Pipeline.scopedRest cfg0.spec c) := by
  rw [show (dats m 0 c).Φ (Fin.last cfg0.N) = done c from rfl, scopedRest0_eq, own_sems, barrier_sem]
  unfold done
  iintro ⟨Hb, Hs⟩
  isplitl [Hb]; · iexact Hb
  isplitl [Hs]; · iexact Hs
  iempintro

omit [FloatOps F] in
/-- All that a device owes at first lies above the staging's level. -/
theorem due_above (c : Dev nD) : ∀ x ∈ dueL c, x.1.1.2 = .tc ∧ 0 < x.2.1 ∧ x.2.1 < 4 := by
  have hl : ∀ p : Fin 4 × Fin 4, 0 < lvl (1, p) := by decide
  intro x hx
  unfold dueL at hx
  rcases List.mem_append.mp hx with h | h
  · obtain ⟨d, -, rfl⟩ := List.mem_map.mp h
    exact ⟨rfl, Nat.one_pos, by show 1 < 4; omega⟩
  · rcases List.mem_append.mp h with h | h <;>
      (obtain ⟨p, -, rfl⟩ := List.mem_map.mp h; exact ⟨rfl, hl p, lvl_lt _⟩)

/-- The staging's waits are allowed. -/
theorem waits (c : Dev nD) : (levAts (L 4) lv : sProp 𝕄) ⊢ Pipeline.cellsWaits cfgs (dats m) 0 0 c :=
  Pipeline.cellsWaits_intro cfgs (dats m) 0 0 c fun w s t => by
    rcases t with ⟨_ | _, ht⟩
    · exact mayWait_due c _ 0 (dueL c) (by decide) (due_above c)
    · exact mayWait_due c _ 0 [] (by decide) (fun _ h => nomatch h)

/-- The staging holds its buffers whole. -/
theorem share_full (c : Dev nD) (w : Fin cfg0.W) : (dats m 0 c).share w = fullShare := by unfold Dat.share; split <;> rfl

/-! ## The run -/

/-- A device's result array is what its body leaves in the staging buffer. -/
theorem result_eq (c : Dev nD) : (dats m 0 c).arrAt (1 : Fin 2) cfg0.N = outAt (xstg m) c := by
  have hz : (fun a => (win0_1.index (0 : Fin 1)) a * main_v1.ty.shape.size a) = fun _ => 0 :=
    funext fun a => by fin_cases a <;> decide
  have hr := fun f => Memref.read_access_unit_zero (Elt F) main_v1 hz (fun a => by fin_cases a <;> decide) f
  have h : (win0_1.blk (0 : Fin 1)).view.read (Elt F) ((dats m 0 c).arrAt (1 : Fin 2) cfg0.N) = outAt (xstg m) c := by
    rw [show cfg0.N = t0_0.val + 1 from rfl, (dats m 0 c).arrAt_succ (1 : Fin 2) t0_0, if_pos (flush0_1 t0_0)]
    exact View.read_write_univ _ _
  exact (hr _).symm.trans h

/-- Its staged argument is its argument array. -/
theorem xstg_eq (c : Dev nD) : xstg m c = m ((c : Thread nD τ).loc main_arg0) := by
  have hz : (fun a => (win0_0.index (0 : Fin 1)) a * main_arg0.ty.shape.size a) = fun _ => 0 :=
    funext fun a => by fin_cases a <;> decide
  exact Memref.read_access_unit_zero (Elt F) main_arg0 hz (fun a => by fin_cases a <;> decide) _

set_option maxRecDepth 8000 in
/-- The kernel's run, for any float values and any memory: every fair execution ends, with each device's result array
    gathered from the devices' arguments, its argument unchanged and every semaphore at zero. -/
theorem run_main : θ_run defs (onTc (τ := τ) (main (F := F))) ⟨m, fun _ => 0, ρ⟩
    (fun r => (∀ c : Dev nD, r.2.mem ((c : Thread nD τ).loc main_v1) = outAt (fun d => m ((d : Thread nD τ).loc main_arg0)) c
      ∧ r.2.mem ((c : Thread nD τ).loc main_arg0) = m ((c : Thread nD τ).loc main_arg0)) ∧ r.2.sem = fun _ => 0) :=
  Pipeline.θ_run_region_owing_glob_pf (fun p => (cfgs p).toPCfg) (fun p => (cfgs p).toPCfg_adm) (dats m) 0 cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0)
    (hshare := share_full m) (hdistinct := winFacts0.arr_inj)
    (O₀ := O₀) (howed₀ := fun _ => rfl) (howedN := fun _ => rfl)
    (L := L 4) (lv := lv) (hL := SiteBlocks.hL 4) (hwaits := waits m)
    (G := G (xstg m)) (G' := G' (xstg m)) (u₀ := u₀)
    (hu₀ := by
      unfold u₀
      iintro Hu
      ihave H := (own_both _ _) $$ Hu
      icases H with ⟨HP, HK⟩
      imod (fund_all (xstg m)) $$ HK with HG
      imodintro
      isplitl [HP] <;> iassumption)
    (hglob := glob (xstg m))
    (hA := fun _ _ => rfl) (hpf := fun _ k => k.elim0)
    (X := start m) (Y := fun c => unscopedSems0 c) (Z := fun _ => iprop(emp))
    (hX := start_intro m ρ) (hin := start_in m) (hout := done_out m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c => ⟨((h c).1 (1 : Fin 2)).trans ((result_eq m c).trans (by rw [funext (xstg_eq m)])),
      ((h c).1 (0 : Fin 2)).trans ((dats m 0 c).arrAt_in (0 : Fin 2) rfl _)⟩, sem_eq_zero hs fun c => (h c).2.2⟩)

end Cert.Proof

end
-- ==== Proof.Value.lean ====
/-
  The value: when every device's argument is its half of one array, every device's result is that array.
-/
module

public import proofs.«01_k».proof.Defs
public import proofs.«01_k».proof.Proof.Blocks

@[expose] public section

noncomputable section

namespace Cert.Proof

open Cert.KernelIdeal Cert.KernelIdeal.Gen
open Idealize.ShloMosaic Idealize.SL.Sem
open Idealize.ShloMosaic.TcCoe

variable {F : FTy → Type}

/-- The half of an array that a device holds. -/
def half (c : Dev nD) (v : S2048x512.Idx → Elt F .bf16) : S1024x512.Idx → Elt F .bf16 :=
  Layout.blockN ⟨2, ![1024, 512]⟩ ⟨2, ![2048, 512]⟩ (Layout.meshBlock [2, 2, 4] ![[1], []] c) v

/-- It is read by the place of its coordinate along the gathered axis. -/
theorem half_at (c : Dev nD) (v : S2048x512.Idx → Elt F .bf16) (r : Fin 1024) (l : Fin 512) :
    half c v (Shape.pair r l) = v (Shape.pair ⟨c.val / 4 % 2 * 1024 + r.val, by show _ < 2048; omega⟩ l) := by
  refine congrArg v (funext fun j => Fin.ext ?_)
  match j with
  | 0 =>
    show (c.val / 4 % 2 * 1 + 0) * 1024 + r.val = c.val / 4 % 2 * 1024 + r.val
    omega
  | 1 =>
    show 0 * 512 + l.val = l.val
    omega

/-- Gathered halves are the array. -/
theorem outAt_whole (X : Dev nD → S1024x512.Idx → Elt F .bf16) (v : S2048x512.Idx → Elt F .bf16)
    (h : ∀ d, X d = half d v) (c : Dev nD) :
    outAt X c = v := by
  funext i
  have hb : (blk i).val = (i 0).val / 64 := rfl
  have hs := srcB_half c (blk i)
  unfold outAt
  rw [h]
  refine (half_at _ v _ _).trans ?_
  refine congrArg v (funext fun j => Fin.ext ?_)
  match j with
  | 0 =>
    show (srcB c (blk i)).val / 4 % 2 * 1024 + (i 0).val % 1024 = (i 0).val
    omega
  | 1 => rfl

end Cert.Proof

end
-- ==== Proof.Ref.lean ====
/-
  The reference's run: it returns its argument, so nothing changes.
-/
module

public import proofs.«01_k».proof.Defs
public import proofs.«01_k».proof.Proof.Gen.ReferenceIdeal
public import Idealize.ShloMosaic.Lib.StableHlo.Run
public import Idealize.ShloMosaic.Adequacy
public import Idealize.ShloMosaic.Lib.Quiescent

@[expose] public section

noncomputable section

namespace Cert.Proof.Ref

open Cert.ReferenceIdeal Cert.ReferenceIdeal.Gen
open Idealize.ShloMosaic Idealize.SL.Sem
open Idealize.ShloMosaic.TcCoe
open Idealize.ShloMosaic.StableHlo

variable {F : FTy → Type} [FloatOps F]

/-- The reference has no scoped buffer. -/
theorem noRefs : (Finset.univ.filter fun b : Ref sig .tc => b.isScoped) = ∅ := by decide
/-- It has no scoped semaphore. -/
theorem noSems : (Finset.univ.filter fun s : SemLoc sig => s.isScoped .tc) = ∅ := by decide

/-- The reference runs no operation; its memory stays and it has no semaphore. -/
theorem run_main (m : (ℓ : Loc nD τ sig) → Buf (Elt F) ℓ) (ρ : Dev nD → PrngReg) :
    θ_run defs (onTc (τ := τ) (main (F := F))) ⟨m, fun _ => 0, ρ⟩
      (fun r => (∀ c : Dev nD, r.2.mem ((c : Thread nD τ).loc main_arg0) = m ((c : Thread nD τ).loc main_arg0)) ∧ r.2.sem = fun _ => 0) :=
  (θ_run defs _ _).mono (fun r h => ⟨fun c => h c main_arg0, sem_eq_zero_of_no_sems (by decide) r.2⟩)
    (StableHlo.run_seq noRefs noSems defs main (fun _ => []) (fun _ => rfl) (fun _ => trivial) m ρ)

end Cert.Proof.Ref

end
-- ==== Proof.lean ====
/- The proof of the certificate's claims: the kernel, the kernel read at exact values and the reference run to the end and
   leave their arguments and their counters as they found them; the kernel gathers on every device the whole array of which
   each device's argument is a half, which is what the reference returns. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Run
public import proofs.«01_k».proof.Proof.Value
public import proofs.«01_k».proof.Proof.Ref
public import Idealize.ShloMosaic.Adequacy
public import Idealize.ShloMosaic.Init

@[expose] public section

noncomputable section

namespace Cert.Proof

open Idealize.ShloMosaic Idealize.SL.Sem

/-- For any float values, the kernel ends, its argument unchanged, its counters at zero. -/
theorem frame_any {F : FTy → Type} [FloatOps F]
    (m : (ℓ : Loc Cert.KernelIdeal.nD Cert.KernelIdeal.τ Cert.KernelIdeal.sig) → Buf (Elt F) ℓ) (ρ : Dev Cert.KernelIdeal.nD → PrngReg) :
    θ_run (Cert.KernelIdeal.defs (F := F)) (onTc (τ := Cert.KernelIdeal.τ) (Cert.KernelIdeal.main (F := F))) ⟨m, fun _ => 0, ρ⟩
      (fun r => (∀ c : Dev Cert.KernelIdeal.nD,
        r.2.mem ((c.tc : Thread Cert.KernelIdeal.nD Cert.KernelIdeal.τ).loc Cert.KernelIdeal.main_arg0)
          = m ((c.tc : Thread Cert.KernelIdeal.nD Cert.KernelIdeal.τ).loc Cert.KernelIdeal.main_arg0)) ∧ r.2.sem = fun _ => 0) :=
  (θ_run Cert.KernelIdeal.defs _ _).mono (fun _ h => ⟨fun c => (h.1 c).2, h.2⟩) (run_main m ρ)

set_option maxRecDepth 20000 in
/-- The body as printed for exact values is the body as printed. -/
theorem defs₀_same : (Cert.Kernel.defs₀ (F := Bits)) = (Cert.KernelIdeal.defs₀ (F := Bits)) := by
  unfold Cert.Kernel.defs₀ Cert.KernelIdeal.defs₀
  refine congrArg Defs.onTc ?_
  funext l x
  rcases l with ⟨_ | _, h⟩
  · rcases x with ⟨t, s⟩
    rfl
  · rfl

/-- So are the programs' tables. -/
theorem defs_same : (Cert.Kernel.defs (F := Bits)) = (Cert.KernelIdeal.defs (F := Bits)) :=
  congrArg (Pipeline.defs (Cert.KernelIdeal.pcfgs (F := Bits))) defs₀_same

/-- The kernel as printed: the same program. -/
theorem frame_kernel : Cert.quiescent_Kernel := fun m ρ _ => by
  rw [defs_same]
  exact frame_any (F := Bits) m ρ

/-- The kernel read at exact values. -/
theorem frame_ideal : Cert.quiescent_KernelIdeal := fun m ρ _ => frame_any (F := Ideal) m ρ

/-- So does the reference. -/
theorem frame_reference : Cert.quiescent_ReferenceIdeal := fun m ρ _ => Ref.run_main (F := Ideal) m ρ

/-- Every device's result is the array the reference returns. -/
theorem value : Cert.algebraic_KernelIdeal_ReferenceIdeal := fun m ρ m' ρ' _ hagree =>
  ⟨m' (((0 : Dev Cert.ReferenceIdeal.nD).tc : Thread Cert.ReferenceIdeal.nD Cert.ReferenceIdeal.τ).loc Cert.ReferenceIdeal.main_arg0),
    (θ_run Cert.KernelIdeal.defs _ _).mono (fun _ h c => ⟨(h.1 c).1.trans (outAt_whole _ _ hagree c), (h.1 c).2⟩) (run_main (F := Ideal) m ρ),
    (θ_run Cert.ReferenceIdeal.defs _ _).mono (fun _ h => ⟨h.1 0, h.1 0⟩) (Ref.run_main (F := Ideal) m' ρ')⟩

/-- All the claims. -/
theorem claim : Cert.Claim :=
  ⟨Cert.Kernel.Gen.facts, Cert.KernelIdeal.Gen.facts, Cert.ReferenceIdeal.Gen.facts,
    frame_kernel, frame_ideal, frame_reference, trivial, value⟩

end Cert.Proof

end
